-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x64 : Shape := ⟨2, ![1, 64]⟩
abbrev S1000000x64 : Shape := ⟨2, ![1000000, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel

variable [Facts]

def fn {F : FTy → Type} [FloatOps F] (main_arg0 : FVec F S1x64 .f32) (main_arg1 : FVec F S1000000x64 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  main_v3
-- ==== Kernel.lean ====
abbrev S1x64 : Shape := ⟨2, ![1, 64]⟩
abbrev S1000000x64 : Shape := ⟨2, ![1000000, 64]⟩
abbrev S1x16 : Shape := ⟨2, ![1, 16]⟩
abbrev S25000x64 : Shape := ⟨2, ![25000, 64]⟩
abbrev S1x1x64 : Shape := ⟨3, ![1, 1, 64]⟩
abbrev S1 : Shape := ⟨1, ![1]⟩
abbrev S1x1x1 : Shape := ⟨3, ![1, 1, 1]⟩
abbrev S2x64 : Shape := ⟨2, ![2, 64]⟩
abbrev S2x25000 : Shape := ⟨2, ![2, 25000]⟩
abbrev S1x25000 : Shape := ⟨2, ![1, 25000]⟩
abbrev S1x1x25000 : Shape := ⟨3, ![1, 1, 25000]⟩
abbrev S1x1x16 : Shape := ⟨3, ![1, 1, 16]⟩
abbrev S1x25016 : Shape := ⟨2, ![1, 25016]⟩
abbrev S1x1x25016 : Shape := ⟨3, ![1, 1, 25016]⟩

abbrev nBuf : Space → Nat
  | .hbm => 4
  | .vmem => 5
  | .smem => 0
  | _ => 0

abbrev bufTy : (tb : Table) → Fin (tcTables nBuf tb) → BufTy
  | .hbm, ⟨0, _⟩ => ⟨S1x64, .f32⟩
  | .hbm, ⟨1, _⟩ => ⟨S1000000x64, .f32⟩
  | .hbm, ⟨2, _⟩ => ⟨S1x16, .f32⟩
  | .hbm, ⟨3, _⟩ => ⟨S1x16, .i32⟩
  | .local _ .vmem, ⟨0, _⟩ => ⟨S1x64, .f32⟩
  | .local _ .vmem, ⟨1, _⟩ => ⟨S25000x64, .f32⟩
  | .local _ .vmem, ⟨2, _⟩ => ⟨S25000x64, .f32⟩
  | .local _ .vmem, ⟨3, _⟩ => ⟨S1x16, .f32⟩
  | .local _ .vmem, ⟨4, _⟩ => ⟨S1x16, .i32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S25000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S1x64 : Shape := ⟨2, ![1, 64]⟩
abbrev S1000000x64 : Shape := ⟨2, ![1000000, 64]⟩
abbrev S_ : Shape := ⟨0, ![]⟩
abbrev S1 : Shape := ⟨1, ![1]⟩
abbrev S1000000 : Shape := ⟨1, ![1000000]⟩
abbrev S16 : Shape := ⟨1, ![16]⟩
abbrev S1x16 : Shape := ⟨2, ![1, 16]⟩

abbrev nBuf : Space → Nat
  | .hbm => 29
  | .vmem => 0
  | .smem => 0
  | _ => 0

abbrev bufTy : (tb : Table) → Fin (tcTables nBuf tb) → BufTy
  | .hbm, ⟨0, _⟩ => ⟨S1x64, .f32⟩
  | .hbm, ⟨1, _⟩ => ⟨S1000000x64, .f32⟩
  | .hbm, ⟨2, _⟩ => ⟨S1x64, .f32⟩
  | .hbm, ⟨3, _⟩ => ⟨S_, .f32⟩
  | .hbm, ⟨4, _⟩ => ⟨S1, .f32⟩
  | .hbm, ⟨5, _⟩ => ⟨S1, .f32⟩
  | .hbm, ⟨6, _⟩ => ⟨S1000000x64, .f32⟩
  | .hbm, ⟨7, _⟩ => ⟨S_, .f32⟩
  | .hbm, ⟨8, _⟩ => ⟨S1000000, .f32⟩
  | .hbm, ⟨9, _⟩ => ⟨S1000000, .f32⟩
  | .hbm, ⟨10, _⟩ => ⟨S1000000x64, .f32⟩
  | .hbm, ⟨11, _⟩ => ⟨S1000000x64, .f32⟩
  | .hbm, ⟨12, _⟩ => ⟨S_, .f32⟩
  | .hbm, ⟨13, _⟩ => ⟨S1000000, .f32⟩
  | .hbm, ⟨14, _⟩ => ⟨S1000000, .f32⟩
  | .hbm, ⟨15, _⟩ => ⟨S1000000, .f32⟩
  | .hbm, ⟨16, _⟩ => ⟨S_, .f32⟩
  | .hbm, ⟨17, _⟩ => ⟨S1000000, .f32⟩
  | .hbm, ⟨18, _⟩ => ⟨S1000000, .f32⟩
  | .hbm, ⟨19, _⟩ => ⟨S1000000, .f32⟩
  | .hbm, ⟨20, _⟩ => ⟨S_, .f32⟩
  | .hbm, ⟨21, _⟩ => ⟨S1000000, .f32⟩
  | .hbm, ⟨22, _⟩ => ⟨S1000000, .f32⟩
  | .hbm, ⟨23, _⟩ => ⟨S1000000, .f32⟩
  | .hbm, ⟨24, _⟩ => ⟨S16, .f32⟩
  | .hbm, ⟨25, _⟩ => ⟨S16, .i32⟩
  | .hbm, ⟨26, _⟩ => ⟨S16, .f32⟩
  | .hbm, ⟨27, _⟩ => ⟨S1x16, .f32⟩
  | .hbm, ⟨28, _⟩ => ⟨S1x16, .i32⟩
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_values : Ref sig .tc := ⟨.hbm, 24, rfl⟩
abbrev main_indices : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Proof.Steps.lean ====
/- What one grid point of the kernel does to the sixteen held entries, as functions of the loaded blocks. -/
module

public import proofs.«01_k».proof.Proof.Gen.KernelIdeal.Skeleton

@[expose] public section

set_option maxRecDepth 65536

noncomputable section

namespace Cert.KernelIdeal.Steps

open Idealize.ShloMosaic Cert.KernelIdeal.Gen

variable {F : FTy → Type} [FloatOps F]

/-- The smallest entry of the candidate row of distances. -/
def minDist (cd : FVec F S1x25016 .f32) : F .f32 :=
  extractAt ![0, 0, 0] (shapeCast S1x1x1 (multiReduction .minimumf [1, 2] S1
    (shapeCast S1x1x25016 cd shapeCasts_S1x25016_S1x1x25016) 0x7F800000#32 reduces_S1x1x25016_S1 (.inl rfl) rfl)
    shapeCasts_S1_S1x1x1) inpos_S1x1x1_p0_0_0

/-- The row of positions, with the largest word wherever the distance is not `d`. -/
def tied (ci : IVec S1x25016 32) (cd : FVec F S1x25016 .f32) (d : F .f32) : IVec S1x25016 32 :=
  select (cmpf .oeq cd (broadcast S1x25016 d)) ci (broadcast S1x25016 2147483647#32)

/-- The smallest entry (signed) of a row of positions. -/
def minPos (v : IVec S1x25016 32) : BitVec 32 :=
  extractAt ![0, 0, 0] (shapeCast S1x1x1 (multiReductionI .minsi [1, 2] S1
    (shapeCast S1x1x25016 v shapeCasts_S1x25016_S1x1x25016) 2147483647#32 reduces_S1x1x25016_S1 rfl)
    shapeCasts_S1_S1x1x1) inpos_S1x1x1_p0_0_0

/-- The column numbers of the sixteen result entries. -/
def cols : IVec S1x16 32 := iota .tc S1x16 32 [1] iota_S1x16_d1_w32

/-- What the selection carries: the distances and the positions picked so far, and the candidates left. -/
structure Sel (F : FTy → Type) where
  d : FVec F S1x16 .f32
  i : IVec S1x16 32
  cd : FVec F S1x25016 .f32

/-- One selection step into column `j`: the smallest distance and the smallest position having it are written there, and
    every candidate at that position is put out of play. -/
def pick (ci : IVec S1x25016 32) (j : BitVec 32) (s : Sel F) : Sel F where
  d := select (cmpi .eq cols (broadcast S1x16 j)) (broadcast S1x16 (minDist s.cd)) s.d
  i := select (cmpi .eq cols (broadcast S1x16 j)) (broadcast S1x16 (minPos (tied ci s.cd (minDist s.cd)))) s.i
  cd := select (cmpi .eq ci (broadcast S1x25016 (minPos (tied ci s.cd (minDist s.cd)))))
    (broadcast S1x25016 (Scalar.ofBits .f32 0x7F800000#32)) s.cd

/-- The first `n` selection steps, into columns 0 to `n - 1`. -/
def picks (ci : IVec S1x25016 32) (s : Sel F) : Nat → Sel F
  | 0 => s
  | n + 1 => pick ci (BitVec.ofNat 32 n) (picks ci s n)

/-- The positions of the block's rows followed by the held positions. -/
def candPos (g : BitVec 32) (hi : Vec F S1x16 .i32) : IVec S1x25016 32 := k0_pay7 (F := F) g hi

/-- The selection before its first step: nothing picked, the block's distances followed by the held ones as candidates. -/
def start (dist : FVec F S1x25000 .f32) (hd : Vec F S1x16 .f32) : Sel F where
  d := broadcast S1x16 (Scalar.ofBits .f32 0x00000000#32)
  i := broadcast S1x16 0#32
  cd := k0_pay6 dist hd

/-- What block `g` leaves in the sixteen held entries when it is merged. -/
def merged (g : BitVec 32) (dist : FVec F S1x25000 .f32) (hd : Vec F S1x16 .f32) (hi : Vec F S1x16 .i32) : Sel F :=
  picks (candPos (F := F) g hi) (start dist hd) 16

/-- The five values the kernel's text carries between its parts belong to the selection `s`: the distances and positions
    picked, the candidates, their smallest distance and the tied row. -/
def Carries (ci : IVec S1x25016 32) (s : Sel F) (d : FVec F S1x16 .f32) (i : IVec S1x16 32) (cd : FVec F S1x25016 .f32)
    (m : F .f32) (t : IVec S1x25016 32) : Prop :=
  d = s.d ∧ i = s.i ∧ cd = s.cd ∧ m = minDist s.cd ∧ t = tied ci s.cd (minDist s.cd)

/-- The first part leaves the selection after one step. -/
theorem part_first (g : BitVec 32) (dist : FVec F S1x25000 .f32) (hd : Vec F S1x16 .f32) (hi : Vec F S1x16 .i32) :
    Carries (candPos (F := F) g hi) (picks (candPos (F := F) g hi) (start dist hd) 1)
      (k0_pay9 dist hd) (k0_pay10 g dist hd hi) (k0_pay11 g dist hd hi) (k0_pay12 g dist hd hi) (k0_pay13 g dist hd hi) := by
  refine ⟨?_, ?_, ?_, ?_, ?_⟩ <;>
    simp only [k0_pay9, k0_pay10, k0_pay11, k0_pay12, k0_pay13, k0_pay8, candPos, picks, start, pick, minPos, tied, minDist,
      cols, BitVec.ofNat_eq_ofNat]

/-- A part of the kernel's text, as five functions of what it is handed, is the two selection steps into columns `j` and `k`. -/
def TwoPicks (j k : BitVec 32)
    (fd : IVec S1x25016 32 → IVec S1x16 32 → FVec F S1x16 .f32 → FVec F S1x25016 .f32 → F .f32 → IVec S1x25016 32 → FVec F S1x16 .f32)
    (fi : IVec S1x25016 32 → IVec S1x16 32 → IVec S1x16 32 → FVec F S1x25016 .f32 → IVec S1x25016 32 → IVec S1x16 32)
    (fc : IVec S1x25016 32 → FVec F S1x25016 .f32 → IVec S1x25016 32 → FVec F S1x25016 .f32)
    (fm : IVec S1x25016 32 → FVec F S1x25016 .f32 → IVec S1x25016 32 → F .f32)
    (ft : IVec S1x25016 32 → FVec F S1x25016 .f32 → IVec S1x25016 32 → IVec S1x25016 32) : Prop :=
  ∀ (ci : IVec S1x25016 32) (s : Sel F) (d : FVec F S1x16 .f32) (i : IVec S1x16 32) (cd : FVec F S1x25016 .f32) (m : F .f32)
    (t : IVec S1x25016 32), Carries ci s d i cd m t →
    Carries ci (pick ci k (pick ci j s)) (fd ci cols d cd m t) (fi ci cols i cd t) (fc ci cd t) (fm ci cd t) (ft ci cd t)

/-- Parts two to eight of the kernel's text are the selection steps into columns 1 to 14. -/
theorem parts :
    TwoPicks (F := F) 1#32 2#32 k0_pay16 k0_pay17 k0_pay18 k0_pay19 k0_pay20
    ∧ TwoPicks (F := F) 3#32 4#32 k0_pay23 k0_pay24 k0_pay25 k0_pay26 k0_pay27
    ∧ TwoPicks (F := F) 5#32 6#32 k0_pay30 k0_pay31 k0_pay32 k0_pay33 k0_pay34
    ∧ TwoPicks (F := F) 7#32 8#32 k0_pay37 k0_pay38 k0_pay39 k0_pay40 k0_pay41
    ∧ TwoPicks (F := F) 9#32 10#32 k0_pay44 k0_pay45 k0_pay46 k0_pay47 k0_pay48
    ∧ TwoPicks (F := F) 11#32 12#32 k0_pay51 k0_pay52 k0_pay53 k0_pay54 k0_pay55
    ∧ TwoPicks (F := F) 13#32 14#32 k0_pay58 k0_pay59 k0_pay60 k0_pay61 k0_pay62 := by
  refine ⟨?_, ?_, ?_, ?_, ?_, ?_, ?_⟩ <;> rintro ci s _ _ _ _ _ ⟨h1, h2, h3, h4, h5⟩ <;> rw [h1, h2, h3, h4, h5] <;>
    refine ⟨?_, ?_, ?_, ?_, ?_⟩ <;>
    simp only [k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60,
      k0_pay61, k0_pay62, pick, minPos, tied, minDist]

/-- The stored distances and positions are those of the last selection step. -/
theorem part_last (ci : IVec S1x25016 32) (s : Sel F) (d : FVec F S1x16 .f32) (i : IVec S1x16 32) (cd : FVec F S1x25016 .f32)
    (m : F .f32) (t : IVec S1x25016 32) (h : Carries ci s d i cd m t) :
    k0_pay4 cols d m = (pick ci 15#32 s).d ∧ k0_pay5 cols i t = (pick ci 15#32 s).i := by
  obtain ⟨h1, h2, h3, h4, h5⟩ := h
  rw [h1, h2, h4, h5]
  constructor
  · simp only [k0_pay4, pick]
  · simp only [k0_pay5, pick, minPos]

/-- The sixteen held entries between grid points. -/
structure Held (F : FTy → Type) where
  d : Vec F S1x16 .f32
  i : Vec F S1x16 .i32

/-- The first grid point. -/
abbrev First (i : grid0.Coords) : Prop :=
  Scalar.cmpi .ne (Scalar.extui (Scalar.cmpi .eq (BitVec.ofNat 32 (i 0).val) 0#32)) 0#32 = 1#1

/-- The held entries as the body works on them: at the first point +∞ and position 0 throughout. -/
def reset (i : grid0.Coords) (h : Held F) : Held F := if First i then ⟨k0_pay63, k0_pay64⟩ else h

/-- The block's row of distances. -/
def dists (q : Vec F S1x64 .f32) (x : Vec F S25000x64 .f32) : FVec F S1x25000 .f32 :=
  k0_pay1 (k0_pay65 q x) (Scalar.ofBits .f32 0x3F800000#32)

/-- The block's smallest distance is below the largest held one. -/
abbrev Merges (q : Vec F S1x64 .f32) (x : Vec F S25000x64 .f32) (h : Held F) : Prop :=
  Scalar.cmpi .ne (Scalar.extui (Scalar.cmpf .olt (k0_pay2 (k0_pay65 q x) (Scalar.ofBits .f32 0x3F800000#32)) (k0_pay3 h.d))) 0#32 = 1#1

/-- The merge of a block into the held entries. -/
def merge (g : BitVec 32) (dist : FVec F S1x25000 .f32) (h : Held F) : Held F :=
  ⟨(merged g dist h.d h.i).d, (merged g dist h.d h.i).i⟩

/-- What the body at point `i` makes of the held entries. -/
def point (i : grid0.Coords) (q : Vec F S1x64 .f32) (x : Vec F S25000x64 .f32) (h : Held F) : Held F :=
  if Merges q x (reset i h) then merge (BitVec.ofNat 32 (i 0).val) (dists q x) (reset i h) else reset i h

end Cert.KernelIdeal.Steps

end
-- ==== Proof.Body.lean ====
/- The kernel body at a grid point: on whole staging buffers it leaves the inputs as they were and the held entries at
   `Steps.point`. -/
module

public import proofs.«01_k».proof.Proof.Gen.KernelIdeal.Frame
public import proofs.«01_k».proof.Proof.Steps
public import Idealize.ShloMosaic.Lib.Tactic
public import Idealize.ShloMosaic.Lib.VecWindow

@[expose] public section

set_option maxRecDepth 16384

noncomputable section

namespace Cert.KernelIdeal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- What a buffer of held distances reads after the first-point reset. -/
theorem read_reset_d (m : Memref sig .tc .vmem S1x16 .f32) (hm : m.IsWhole) (i : grid0.Coords) (h : Held F) :
    m.view.read (Elt F) (if hc : First i then
      m.view.writes (Elt F) (hm.unread h.d) [⟨Rect.unit ![0, 0] S1x16.size inb_S1x16_S1x16_0_0, k0_pay63⟩]
      else hm.unread h.d) = (reset i h).d := by
  unfold reset
  by_cases hc : First i
  · rw [dif_pos hc, if_pos hc]; exact View.read_writes_full _ _ _ _ _
  · rw [dif_neg hc, if_neg hc]; exact hm.read_unread _

/-- What a buffer of held positions reads after the first-point reset. -/
theorem read_reset_i (m : Memref sig .tc .vmem S1x16 .i32) (hm : m.IsWhole) (i : grid0.Coords) (h : Held F) :
    m.view.read (Elt F) (if hc : First i then
      m.view.writes (Elt F) (hm.unread h.i) [⟨Rect.unit ![0, 0] S1x16.size inb_S1x16_S1x16_0_0, k0_pay64⟩]
      else hm.unread h.i) = (reset i h).i := by
  unfold reset
  by_cases hc : First i
  · rw [dif_pos hc, if_pos hc]; exact View.read_writes_full _ _ _ _ _
  · rw [dif_neg hc, if_neg hc]; exact hm.read_unread _

set_option maxHeartbeats 1000000 in
/-- The body's triple at any point. -/
theorem run (c : Dev nD) (i : grid0.Coords) (arg1 : Memref sig .tc .vmem S1x64 .f32) (harg1 : arg1.IsWhole)
    (arg2 : Memref sig .tc .vmem S25000x64 .f32) (harg2 : arg2.IsWhole) (arg3 : Memref sig .tc .vmem S1x16 .f32) (harg3 : arg3.IsWhole)
    (arg4 : Memref sig .tc .vmem S1x16 .i32) (harg4 : arg4.IsWhole)
    (q : Vec F S1x64 .f32) (x : Vec F S25000x64 .f32) (h : Held F) (E : Set ℕ) (K : PUnit → sProp 𝕄) :
    iprop(owns (c : Thread nD τ) arg1 fullShare q ∗ owns (c : Thread nD τ) arg2 fullShare x
        ∗ owns (c : Thread nD τ) arg3 fullShare h.d ∗ owns (c : Thread nD τ) arg4 fullShare h.i
        ∗ (iprop(owns (c : Thread nD τ) arg1 fullShare q ∗ owns (c : Thread nD τ) arg2 fullShare x
            ∗ owns (c : Thread nD τ) arg3 fullShare (point i q x h).d ∗ owns (c : Thread nD τ) arg4 fullShare (point i q x h).i) -∗ K ⟨⟩))
      ⊢ wp frame (wpE (defs₀ (F := F)) Variants.none c none) E (cc0__knn_kernel i arg1 harg1 arg2 harg2 arg3 harg3 arg4 harg4) K := by
  simp only [cc0__knn_kernel_eq_skeleton]; unfold cc0__knn_kernel_skel
  simp only [k0_part9_eq_skeleton, k0_part1_eq_skeleton, k0_part2_eq_skeleton, k0_part3_eq_skeleton, k0_part4_eq_skeleton,
    k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1
  obtain rfl := harg3.eq_unread hf2; obtain rfl := harg4.eq_unread hf3
  sl_exec
  -- the values the body computed, by the names the executor gave them
  have eq : run.sl.r c arg1 harg1 arg2 harg2 q x = k0_pay65 q x := by
    unfold run.sl.r
    rw [(View.readAt_full arg1.view _ inb_S1x64_S1x64_0_0).trans (harg1.read_unread q),
      (View.readAt_full arg2.view _ inb_S25000x64_S25000x64_0_0).trans (harg2.read_unread x)]
  have e50 : run.sl.v50 c i arg3 harg3 h = (reset i h).d :=
    (View.readAt_full arg3.view _ inb_S1x16_S1x16_0_0).trans (read_reset_d arg3 harg3 i h)
  have e63 : run.sl.v63 c i arg3 harg3 h = (reset i h).d :=
    (View.readAt_full arg3.view _ inb_S1x16_S1x16_0_0).trans (read_reset_d arg3 harg3 i h)
  have e66 : run.sl.v66 c i arg4 harg4 h = (reset i h).i :=
    (View.readAt_full arg4.view _ inb_S1x16_S1x16_0_0).trans (read_reset_i arg4 harg4 i h)
  have c1 : Carries (run.sl.r_1 c i arg4 harg4 h)
      (picks (candPos (F := F) (BitVec.ofNat 32 (i 0).val) (reset i h).i) (start (dists q x) (reset i h).d) 1)
      (run.sl.r_2 c i arg1 harg1 arg2 harg2 arg3 harg3 q x h) (run.sl.r_3 c i arg1 harg1 arg2 harg2 arg3 harg3 arg4 harg4 q x h)
      (run.sl.r_4 c i arg1 harg1 arg2 harg2 arg3 harg3 arg4 harg4 q x h)
      (run.sl.r_5 c i arg1 harg1 arg2 harg2 arg3 harg3 arg4 harg4 q x h)
      (run.sl.r_6 c i arg1 harg1 arg2 harg2 arg3 harg3 arg4 harg4 q x h) := by
    unfold run.sl.r_1 run.sl.r_2 run.sl.r_3 run.sl.r_4 run.sl.r_5 run.sl.r_6
    rw [eq, e63, e66]
    exact part_first _ _ _ _
  have c15 := (parts (F := F)).2.2.2.2.2.2 _ _ _ _ _ _ _ <| (parts (F := F)).2.2.2.2.2.1 _ _ _ _ _ _ _ <|
    (parts (F := F)).2.2.2.2.1 _ _ _ _ _ _ _ <| (parts (F := F)).2.2.2.1 _ _ _ _ _ _ _ <|
    (parts (F := F)).2.2.1 _ _ _ _ _ _ _ <| (parts (F := F)).2.1 _ _ _ _ _ _ _ <| (parts (F := F)).1 _ _ _ _ _ _ _ c1
  have e68 : run.sl.r_1 c i arg4 harg4 h = candPos (F := F) (BitVec.ofNat 32 (i 0).val) (reset i h).i := by
    unfold run.sl.r_1; rw [e66]; rfl
  have hd : k0_pay4 run.sl.v69 (run.sl.r_37 c i arg1 harg1 arg2 harg2 arg3 harg3 arg4 harg4 q x h)
      (run.sl.r_39 c i arg1 harg1 arg2 harg2 arg3 harg3 arg4 harg4 q x h)
      = (merge (BitVec.ofNat 32 (i 0).val) (dists q x) (reset i h)).d := by
    refine (part_last _ _ _ _ _ _ _ c15).1.trans ?_
    rw [e68]; rfl
  have hi : k0_pay5 run.sl.v69 (run.sl.r_38 c i arg1 harg1 arg2 harg2 arg3 harg3 arg4 harg4 q x h)
      (run.sl.r_40 c i arg1 harg1 arg2 harg2 arg3 harg3 arg4 harg4 q x h)
      = (merge (BitVec.ofNat 32 (i 0).val) (dists q x) (reset i h)).i := by
    refine (part_last _ _ _ _ _ _ _ c15).2.trans ?_
    rw [e68]; rfl
  rw [eq, e50, hd, hi]
  clear c1 c15
  unfold run.sl.cst_10
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    unfold point
    by_cases hc : Merges q x (reset i h)
    · rw [if_pos hc, dif_pos hc]; exact View.read_writes_full _ _ _ _ _
    · rw [if_neg hc, dif_neg hc]; exact read_reset_d arg3 harg3 i h
  iexists _; isplitr; swap; · iexact H3
  ipureintro
  unfold point
  by_cases hc : Merges q x (reset i h)
  · rw [if_pos hc, dif_pos hc]; exact View.read_writes_full _ _ _ _ _
  · rw [if_neg hc, dif_neg hc]; exact read_reset_i arg4 harg4 i h

end Cert.KernelIdeal.Steps

end
-- ==== Proof.Run.lean ====
/- The launch of the pipeline over the forty grid points: the held entries point by point, the proof data, the body
   obligation, the run and the frame. -/
module

public import proofs.«01_k».proof.Proof.Body
public import Idealize.ShloMosaic.Lib.WordCmp
public import Idealize.ShloMosaic.Lib.Claim

@[expose] public section

set_option maxRecDepth 16384

noncomputable section

namespace Cert.KernelIdeal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The query, as point `t` finds it. -/
def queryAt (c : Dev nD) (t : Fin cfg0.N) : Vec F S1x64 .f32 := iblk m c 0 t

/-- The block of database rows at point `t`. -/
def rowsAt (c : Dev nD) (t : Fin cfg0.N) : Vec F S25000x64 .f32 := iblk m c 1 t

/-- The held entries after the first `n` points. -/
def heldAt (c : Dev nD) : Nat → Held F
  | 0 => ⟨k0_pay63, k0_pay64⟩
  | n + 1 => if h : n < cfg0.N then point (grid0.coords ⟨n, h⟩) (queryAt m c ⟨n, h⟩) (rowsAt m c ⟨n, h⟩) (heldAt c n) else heldAt c n

theorem heldAt_succ (c : Dev nD) (t : Fin cfg0.N) :
    heldAt m c (t.val + 1) = point (grid0.coords t) (queryAt m c t) (rowsAt m c t) (heldAt m c t.val) := by
  rw [heldAt, dif_pos t.isLt]

/-- The first point is point 0. -/
theorem first_iff : ∀ t : Fin cfg0.N, First (grid0.coords t) ↔ t.val = 0 :=
  (by decide +kernel : ∀ t : Fin grid0.N, First (grid0.coords t) ↔ t.val = 0)

/-- At the first point what was held before does not matter. -/
theorem point_first (i : grid0.Coords) (hi : First i) (q : Vec F S1x64 .f32) (x : Vec F S25000x64 .f32) (h h' : Held F) :
    point i q x h = point i q x h' := by
  have e : reset i h = reset i h' := by unfold reset; rw [if_pos hi, if_pos hi]
  unfold point; rw [e]

/-- The proof data: each input's buffer stays at its block, the outputs' buffers hold the held entries. -/
def dats (_ : Fin 1) (c : Dev nD) : Dat τ (Elt F) Unit ℕ (UR sig nD τ) ℕ cfg0 c where
  A w := Gen.V m c (Pipeline.arrRef spec0 w)
  after w t := match w with
    | ⟨0, _⟩ => iblk m c 0 t
    | ⟨1, _⟩ => iblk m c 1 t
    | ⟨2, _⟩ => (heldAt m c (t.val + 1)).d
    | ⟨3, _⟩ => (heldAt m c (t.val + 1)).i
  Φ _ := Pipeline.ΦA spec0 c
  q _ := fullShare
  owed _ := 0

theorem A_eq (c : Dev nD) (w : Fin cfg0.W) : (dats m 0 c).A w = Gen.V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (heldAt m c (t.val + 1)).d := by dsimp only [dats]
theorem after_3 (c : Dev nD) (t : Fin cfg0.N) : (dats m 0 c).after 3 t = (heldAt m c (t.val + 1)).i := by dsimp only [dats]

theorem before_0 (c : Dev nD) (t : Fin cfg0.N) (d) : (dats m 0 c).before 0 t d = queryAt m c t :=
  before0_0_of m (dats m 0 c) (A_eq m c 0) (after_0 m c) t d
theorem before_1 (c : Dev nD) (t : Fin cfg0.N) (d) : (dats m 0 c).before 1 t d = rowsAt m c t :=
  before0_1_of m (dats m 0 c) (A_eq m c 1) (after_1 m c) t d

/-- After the first point the outputs' buffers hold what the point before left. -/
theorem before_2 (c : Dev nD) (t : Fin cfg0.N) (ht : t.val ≠ 0) (d) : (dats m 0 c).before 2 t d = (heldAt m c t.val).d := by
  have hlt : t.val < 40 := lt_of_lt_of_eq t.isLt N_0
  rw [(dats m 0 c).before_out_kept 2 rfl t ht
    (Bool.eq_false_iff.mpr fun hf => by have := (flush0_2 _).mp hf; dsimp only at this; omega) (fun _ => rfl) (fun _ _ => rfl), after_2]
  show (heldAt m c (t.val - 1 + 1)).d = _
  rw [Nat.sub_add_cancel (Nat.pos_of_ne_zero ht)]
theorem before_3 (c : Dev nD) (t : Fin cfg0.N) (ht : t.val ≠ 0) (d) : (dats m 0 c).before 3 t d = (heldAt m c t.val).i := by
  have hlt : t.val < 40 := lt_of_lt_of_eq t.isLt N_0
  rw [(dats m 0 c).before_out_kept 3 rfl t ht
    (Bool.eq_false_iff.mpr fun hf => by have := (flush0_3 _).mp hf; dsimp only at this; omega) (fun _ => rfl) (fun _ _ => rfl), after_3]
  show (heldAt m c (t.val - 1 + 1)).i = _
  rw [Nat.sub_add_cancel (Nat.pos_of_ne_zero ht)]

/-- The body from any held entries that `point` takes to the next ones. -/
theorem body_from (c : Dev nD) (t : Fin cfg0.N) (h : Held F)
    (e : point (grid0.coords t) (queryAt m c t) (rowsAt m c t) h = heldAt m c (t.val + 1)) (K : PUnit → sProp 𝕄) :
    iprop(owns (c : Thread nD τ) (st0_0 t) fullShare (queryAt m c t) ∗ owns (c : Thread nD τ) (st0_1 t) fullShare (rowsAt m c t)
        ∗ owns (c : Thread nD τ) (st0_2 t) fullShare h.d ∗ owns (c : Thread nD τ) (st0_3 t) fullShare h.i
        ∗ (iprop(owns (c : Thread nD τ) (st0_0 t) fullShare (queryAt m c t) ∗ owns (c : Thread nD τ) (st0_1 t) fullShare (rowsAt m c t)
            ∗ owns (c : Thread nD τ) (st0_2 t) fullShare (heldAt m c (t.val + 1)).d
            ∗ owns (c : Thread nD τ) (st0_3 t) fullShare (heldAt m c (t.val + 1)).i) -∗ K ⟨⟩))
      ⊢ wp frame (wpE (defs₀ (F := F)) Variants.none c none) Set.univ (bodyAt0 t) K := by
  have r := run c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (queryAt m c t) (rowsAt m c t) h Set.univ K
  rw [e] at r
  exact r

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1200000 in
/-- The body at any point: the first starts from whatever the outputs' buffers hold, a later one from what the point
    before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (st0_0 t) fullShare (queryAt m c t) from by
      unfold Dat.leavesExact; rw [show cfg0.idle 0 (grid0.coords t) = false from rfl, after_0]; rfl,
    show (dats m 0 c).leavesExact 1 t = owns (c : Thread nD τ) (st0_1 t) fullShare (rowsAt m c t) from by
      unfold Dat.leavesExact; rw [show cfg0.idle 1 (grid0.coords t) = false from rfl, after_1]; rfl,
    show (dats m 0 c).leavesExact 2 t = owns (c : Thread nD τ) (st0_2 t) fullShare (heldAt m c (t.val + 1)).d from by
      unfold Dat.leavesExact; rw [show cfg0.idle 2 (grid0.coords t) = false from rfl, after_2],
    show (dats m 0 c).leavesExact 3 t = owns (c : Thread nD τ) (st0_3 t) fullShare (heldAt m c (t.val + 1)).i from by
      unfold Dat.leavesExact; rw [show cfg0.idle 3 (grid0.coords t) = false from rfl, after_3]]
  iintro ⟨HΦ, Ho, ⟨%d0, H0⟩, ⟨%d1, H1⟩, ⟨%d2, H2⟩, ⟨%d3, H3⟩⟩
  have key : ∃ h : Held F, h.d = (dats m 0 c).before 2 t d2 ∧ h.i = (dats m 0 c).before 3 t d3
      ∧ point (grid0.coords t) (queryAt m c t) (rowsAt m c t) h = heldAt m c (t.val + 1) := by
    refine ⟨⟨(dats m 0 c).before 2 t d2, (dats m 0 c).before 3 t d3⟩, rfl, rfl, ?_⟩
    rw [heldAt_succ]
    by_cases ht : t.val = 0
    · exact point_first _ ((first_iff t).mpr ht) _ _ _ _
    · rw [before_2 m c t ht, before_3 m c t ht]
  obtain ⟨h, h2, h3, e⟩ := key
  rw [← h2, ← h3]
  iapply (body_from m c t h e _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t` is the body at point `t`. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every execution terminates with the arrays at what the write-backs left and every counter at zero. -/
theorem run_main : θ_run defs (onTc (τ := τ) (main (F := F))) (s₀ m ρ)
    (fun r => Pipeline.FramePost cfgs (dats m) 0 (Gen.V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := Gen.V m) (hmain := Gen.hmain m Variants.none) (hA := A_eq m) (hΦ := fun _ _ => rfl)

/-- The frame: the arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (Gen.frame_of m ρ (dats m) (A_eq m) ((θ_run defs _ _).mono (fun _ h => h.1) (run_main m ρ)))
    ((θ_run defs _ _).mono (fun _ h => h.2) (run_main m ρ))

end Cert.KernelIdeal.Steps

end
-- ==== Proof.Transport.lean ====
/- The frame of the kernel as it is printed for machine words: its program is, name for name, the program read at the
   extended reals, and the frame of that one is proved for any floats. -/
module

public import proofs.«01_k».proof.Defs
public import proofs.«01_k».proof.Proof.Run
public import proofs.«01_k».proof.Proof.Gen.Kernel

@[expose] public section

set_option maxRecDepth 65536

noncomputable section

namespace Cert.Transport

open Idealize.ShloMosaic Idealize.ShloMosaic.TcCoe Idealize.SL.Sem

variable {F : FTy → Type} [FloatOps F]

/-- The two texts of the entry function are the same program. -/
theorem main_eq : Cert.Kernel.main (F := F) = Cert.KernelIdeal.main (F := F) := rfl

/-- And so are the two kernels' body tables, -/
theorem defs₀_eq : Cert.Kernel.defs₀ (F := F) = Cert.KernelIdeal.defs₀ (F := F) := by
  unfold Cert.Kernel.defs₀ Cert.KernelIdeal.defs₀
  congr 1
  funext ℓ a
  match ℓ, a with
  | 0, (t, s) => rfl

/-- and the whole tables with the pipeline. -/
theorem defs_eq : Cert.Kernel.defs (F := F) = Cert.KernelIdeal.defs (F := F) := by
  unfold Cert.Kernel.defs Cert.KernelIdeal.defs
  rw [defs₀_eq]
  rfl

/-- The frame of the kernel at machine words. -/
theorem frame : Cert.quiescent_Kernel := fun m g _ => by
  rw [defs_eq]
  exact Cert.KernelIdeal.Steps.frame (F := Bits) m g

end Cert.Transport

end
-- ==== Proof.Folds.lean ====
/- The minima and the maximum the kernel takes, read as what they bound and where they are attained. -/
module

public import proofs.«01_k».proof.Proof.Steps
public import Idealize.ShloMosaic.PureOps.Ideal.Laws
public import Idealize.ShloMosaic.PureOps.Reduce
public import Idealize.ShloMosaic.Lib.WordArith
public import Idealize.ShloMosaic.Lib.ValueIdx

@[expose] public section

set_option maxRecDepth 65536

noncomputable section

namespace Cert.KernelIdeal.Steps

open Idealize.ShloMosaic Cert.KernelIdeal.Gen

/-! ### Folds over a list -/

/-- The running minimum of a list is at most its start and every entry, and is one of them. -/
theorem foldl_min_facts {α ι : Type} [LinearOrder α] (x : ι → α) (l : List ι) (b : α) :
    l.foldl (fun r i => min r (x i)) b ≤ b ∧ (∀ i ∈ l, l.foldl (fun r i => min r (x i)) b ≤ x i)
      ∧ (l.foldl (fun r i => min r (x i)) b = b ∨ ∃ i ∈ l, x i = l.foldl (fun r i => min r (x i)) b) := by
  induction l generalizing b with
  | nil => simp
  | cons a l ih =>
    obtain ⟨h1, h2, h3⟩ := ih (min b (x a))
    rw [List.foldl_cons]
    refine ⟨h1.trans (min_le_left _ _), fun i hi => ?_, ?_⟩
    · rcases List.mem_cons.1 hi with rfl | hi
      · exact h1.trans (min_le_right _ _)
      · exact h2 i hi
    · rcases h3 with h3 | ⟨i, hi, h3⟩
      · rcases min_choice b (x a) with h | h
        · exact .inl (h3.trans h)
        · exact .inr ⟨a, List.mem_cons_self, (h3.trans h).symm⟩
      · exact .inr ⟨i, List.mem_cons_of_mem _ hi, h3⟩

/-- Every entry of a list is at most the running maximum. -/
theorem le_foldl_max {α ι : Type} [LinearOrder α] (x : ι → α) (l : List ι) (b : α) :
    b ≤ l.foldl (fun r i => max r (x i)) b ∧ ∀ i ∈ l, x i ≤ l.foldl (fun r i => max r (x i)) b := by
  induction l generalizing b with
  | nil => simp
  | cons a l ih =>
    obtain ⟨h1, h2⟩ := ih (max b (x a))
    rw [List.foldl_cons]
    refine ⟨(le_max_left _ _).trans h1, fun i hi => ?_⟩
    rcases List.mem_cons.1 hi with rfl | hi
    · exact (le_max_right _ _).trans h1
    · exact h2 i hi

/-- The running maximum from the least value over entries of one and the same value stays between them. -/
theorem foldl_max_const {α ι : Type} [LinearOrder α] (x : ι → α) (l : List ι) (b v : α) (hb : b ≤ v) (h : ∀ i ∈ l, x i ≤ v) :
    l.foldl (fun r i => max r (x i)) b ≤ v := by
  induction l generalizing b with
  | nil => exact hb
  | cons a l ih =>
    rw [List.foldl_cons]
    exact ih _ (max_le hb (h a List.mem_cons_self)) fun i hi => h i (List.mem_cons_of_mem _ hi)

/-- The running signed minimum of words below `2³¹` is, read as a number, the running minimum of the numbers. -/
theorem foldl_minsi_toNat {ι : Type} (x : ι → BitVec 32) (hx : ∀ i, (x i).toNat < 2 ^ 31) (l : List ι) (b : BitVec 32)
    (hb : b.toNat < 2 ^ 31) :
    (l.foldl (fun r i => IntOp.minsi r (x i)) b).toNat = l.foldl (fun r i => min r (x i).toNat) b.toNat := by
  induction l generalizing b with
  | nil => rfl
  | cons a l ih =>
    rw [List.foldl_cons, List.foldl_cons]
    have e := WordArith.toNat_minsi_of_lt b (x a) hb (hx a)
    rw [ih _ (by rw [e]; exact lt_of_le_of_lt (min_le_left _ _) hb), e]

/-! ### Reductions to one entry -/

section One
variable {s t : Shape} {axes : List (Fin s.rank)}

/-- Every index is in the row-major list of all of them. -/
theorem mem_all (s : Shape) (i : s.Idx) : i ∈ (List.finRange s.numel).map s.rowMajor.symm :=
  List.mem_map.2 ⟨s.rowMajor i, List.mem_finRange _, s.rowMajor.symm_apply_apply i⟩

/-- A minimum over everything, from `+∞`, bounds every entry from below and is one of the entries (`i₀` is some index). -/
theorem minimum_facts (h : s.Reduces axes t) (ht : ∀ b, t.size b = 1) (x : s.Idx → EReal) (j : t.Idx) (i₀ : s.Idx) :
    (∀ i, reduceFold h min ⊤ x j ≤ x i) ∧ ∃ i, x i = reduceFold h min ⊤ x j := by
  rw [reduceFold_eq_foldl_of_size_one h ht]
  obtain ⟨-, h2, h3⟩ := foldl_min_facts x ((List.finRange s.numel).map s.rowMajor.symm) ⊤
  refine ⟨fun i => h2 i (mem_all s i), ?_⟩
  rcases h3 with h3 | ⟨i, -, h3⟩
  · exact ⟨i₀, top_le_iff.1 (h3 ▸ h2 i₀ (mem_all s i₀)) |>.trans h3.symm⟩
  · exact ⟨i, h3⟩

/-- A maximum over everything is at least every entry, and at most whatever bounds the start and every entry. -/
theorem maximum_facts (h : s.Reduces axes t) (ht : ∀ b, t.size b = 1) (x : s.Idx → EReal) (j : t.Idx) (i : s.Idx) :
    x i ≤ reduceFold h max ⊥ x j := by
  rw [reduceFold_eq_foldl_of_size_one h ht]
  exact (le_foldl_max x _ ⊥).2 i (mem_all s i)

/-- A signed minimum of words below `2³¹`, from the largest such word: at most every entry as a number, and either that largest word
    or one of the entries. -/
theorem minimum_word_facts (h : s.Reduces axes t) (ht : ∀ b, t.size b = 1) (x : s.Idx → BitVec 32)
    (hx : ∀ i, (x i).toNat < 2 ^ 31) (j : t.Idx) :
    (∀ i, (reduceFold h IntOp.minsi 2147483647#32 x j).toNat ≤ (x i).toNat)
      ∧ ((reduceFold h IntOp.minsi 2147483647#32 x j).toNat = 2147483647
        ∨ ∃ i, (x i).toNat = (reduceFold h IntOp.minsi 2147483647#32 x j).toNat) := by
  rw [reduceFold_eq_foldl_of_size_one h ht, foldl_minsi_toNat x hx _ _ (by decide)]
  obtain ⟨-, h2, h3⟩ := foldl_min_facts (fun i => (x i).toNat) ((List.finRange s.numel).map s.rowMajor.symm)
    (2147483647#32 : BitVec 32).toNat
  refine ⟨fun i => h2 i (mem_all s i), ?_⟩
  rcases h3 with h3 | ⟨i, -, h3⟩
  · exact .inl h3
  · exact .inr ⟨i, h3⟩

end One

/-! ### The kernel's -/

/-- The word of `+∞` is the top. -/
theorem ofBits_inf : Ideal.ofBits .f32 0x7F800000#32 = ⊤ := by simp [Ideal.ofBits, Ideal.ieee]

/-- The word of `-∞` is the bottom. -/
theorem ofBits_neg_inf : Ideal.ofBits .f32 0xFF800000#32 = ⊥ := by simp [Ideal.ofBits, Ideal.ieee]

/-- Every axis of the one-entry shape has size one. -/
theorem size_S1 (b : Fin S1.rank) : S1.size b = 1 := by
  match b with
  | ⟨0, _⟩ => rfl

/-- The one entry read out of a one-entry vector is an entry of it. -/
theorem extract_one {α : Type} (v : S1.Idx → α) :
    ∃ j, extractAt ![0, 0, 0] (shapeCast S1x1x1 v shapeCasts_S1_S1x1x1) inpos_S1x1x1_p0_0_0 = v j := ⟨_, rfl⟩

section Row
variable {s u : Shape} {axes : List (Fin u.rank)} (hc : s.ShapeCasts u) (h : u.Reduces axes S1)

/-- The least entry of a row, as the kernel takes it: at most every entry, and one of them. -/
theorem least_facts (x : FVec Ideal s .f32) (i₀ : s.Idx) (m : EReal)
    (hm : m = extractAt ![0, 0, 0] (shapeCast S1x1x1 (multiReduction .minimumf axes S1 (shapeCast u x hc) 0x7F800000#32 h (.inl rfl) rfl)
      shapeCasts_S1_S1x1x1) inpos_S1x1x1_p0_0_0) : (∀ p, m ≤ x p) ∧ ∃ p, x p = m := by
  obtain ⟨j, hj⟩ := extract_one (multiReduction .minimumf axes S1 (shapeCast u x hc) 0x7F800000#32 h (.inl rfl) rfl)
  have e : m = reduceFold h min ⊤ (shapeCast u x hc) j := by
    rw [hm, hj, ← ofBits_inf]
    rfl
  obtain ⟨h1, i, h2⟩ := minimum_facts h size_S1 (shapeCast u x hc) j ((Shape.reshapeEquiv hc).symm i₀)
  rw [e]
  refine ⟨fun p => ?_, Shape.reshapeEquiv hc i, h2⟩
  have h3 := h1 ((Shape.reshapeEquiv hc).symm p)
  rwa [shapeCast, Equiv.apply_symm_apply] at h3

/-- The greatest entry of a row, as the kernel takes it, is at least every entry. -/
theorem greatest_facts (x : FVec Ideal s .f32) (m : EReal)
    (hm : m = extractAt ![0, 0, 0] (shapeCast S1x1x1 (multiReduction .maximumf axes S1 (shapeCast u x hc) 0xFF800000#32 h (.inl rfl) rfl)
      shapeCasts_S1_S1x1x1) inpos_S1x1x1_p0_0_0) (p : s.Idx) : x p ≤ m := by
  obtain ⟨j, hj⟩ := extract_one (multiReduction .maximumf axes S1 (shapeCast u x hc) 0xFF800000#32 h (.inl rfl) rfl)
  have e : m = reduceFold h max ⊥ (shapeCast u x hc) j := by
    rw [hm, hj, ← ofBits_neg_inf]
    rfl
  have h3 := maximum_facts h size_S1 (shapeCast u x hc) j ((Shape.reshapeEquiv hc).symm p)
  rw [e]
  rwa [shapeCast, Equiv.apply_symm_apply] at h3

/-- The least word of a row of words below `2³¹`, as the kernel takes it: at most every word, and the largest such word or one of them. -/
theorem least_word_facts (x : IVec s 32) (hx : ∀ p, (x p).toNat < 2 ^ 31) (m : BitVec 32)
    (hm : m = extractAt ![0, 0, 0] (shapeCast S1x1x1 (multiReductionI .minsi axes S1 (shapeCast u x hc) 2147483647#32 h rfl)
      shapeCasts_S1_S1x1x1) inpos_S1x1x1_p0_0_0) :
    (∀ p, m.toNat ≤ (x p).toNat) ∧ (m.toNat = 2147483647 ∨ ∃ p, (x p).toNat = m.toNat) := by
  obtain ⟨j, hj⟩ := extract_one (multiReductionI .minsi axes S1 (shapeCast u x hc) 2147483647#32 h rfl)
  have e : m = reduceFold h IntOp.minsi 2147483647#32 (shapeCast u x hc) j := by
    rw [hm, hj]
    rfl
  obtain ⟨h1, h2⟩ := minimum_word_facts h size_S1 (shapeCast u x hc) (fun i => hx _) j
  rw [e]
  refine ⟨fun p => ?_, h2.imp_right fun ⟨i, hi⟩ => ⟨Shape.reshapeEquiv hc i, hi⟩⟩
  have h3 := h1 ((Shape.reshapeEquiv hc).symm p)
  rwa [shapeCast, Equiv.apply_symm_apply] at h3

end Row

/-- The smallest candidate distance is at most every candidate's and is one of them. -/
theorem minDist_facts (cd : FVec Ideal S1x25016 .f32) : (∀ p, minDist cd ≤ cd p) ∧ ∃ p, cd p = minDist cd :=
  least_facts shapeCasts_S1x25016_S1x1x25016 reduces_S1x1x25016_S1 cd (ValueIdx.ix2 0 0) _ rfl

/-- The smallest of a row of positions below `2³¹` is at most every one, and the largest such word or one of them. -/
theorem minPos_facts (v : IVec S1x25016 32) (hv : ∀ p, (v p).toNat < 2 ^ 31) :
    (∀ p, (minPos v).toNat ≤ (v p).toNat) ∧ ((minPos v).toNat = 2147483647 ∨ ∃ p, (v p).toNat = (minPos v).toNat) :=
  least_word_facts shapeCasts_S1x25016_S1x1x25016 reduces_S1x1x25016_S1 v hv _ rfl

/-- The block's smallest distance is at most every one of its distances and is one of them. -/
theorem blockMin_facts (q : FVec Ideal S1x25000 .f32) (one : EReal) :
    (∀ p, k0_pay2 (F := Ideal) q one ≤ k0_pay1 (F := Ideal) q one p) ∧ ∃ p, k0_pay1 (F := Ideal) q one p = k0_pay2 (F := Ideal) q one :=
  least_facts shapeCasts_S1x25000_S1x1x25000 reduces_S1x1x25000_S1 (k0_pay1 (F := Ideal) q one) (ValueIdx.ix2 0 0) _ rfl

/-- The largest held distance is at least every held distance. -/
theorem heldMax_facts (hd : FVec Ideal S1x16 .f32) (p : S1x16.Idx) : hd p ≤ k0_pay3 (F := Ideal) hd := by
  have e : shapeCast S1x16 hd shapeCasts_S1x16_S1x16 = hd :=
    funext fun i => congrArg hd (Shape.reshapeEquiv_self _ i)
  refine greatest_facts shapeCasts_S1x16_S1x1x16 reduces_S1x1x16_S1 hd _ ?_ p
  rw [k0_pay3]
  simp only [e]

end Cert.KernelIdeal.Steps
-- ==== Proof.Similarity.lean ====
/- The cosine similarity of the query and one row of the database, as the reference writes it and as the kernel computes it from
   high and low parts; over a finite row the two are the same number, and never `⊥`. Nothing here knows the programs. -/
module

public import Idealize.ShloMosaic.PureOps.Ideal.Laws
public import Mathlib.Data.EReal.Inv
public import Mathlib.Algebra.Order.BigOperators.Group.Finset

@[expose] public section

noncomputable section

namespace Cert.Similarity

open Idealize.ShloMosaic
open scoped BigOperators

/-- The reference's floor of the denominator. -/
def floor : EReal := Ideal.ofBits .f32 0x322BCC77#32

/-- The floor is a positive real. -/
theorem floor_pos : ∃ e : ℝ, 0 < e ∧ floor = (e : EReal) := by
  refine ⟨11258999 * (2 : ℝ) ^ (-50 : ℤ), by positivity, ?_⟩
  simp [floor, Ideal.ofBits, Ideal.ieee, -EReal.coe_mul]

/-- The denominator from the two squared norms. -/
def den (a b : EReal) : EReal := max (Ideal.sqrt a * Ideal.sqrt b) floor

/-- The cosine similarity as the reference writes it. -/
def sim (Q X : Fin 64 → EReal) : EReal := Ideal.div (∑ k, Q k * X k) (den (∑ k, Q k * Q k) (∑ k, X k * X k))

/-- The cosine similarity as the kernel computes it, each factor and each square in a high part and the rest. -/
def simParts (Q X : Fin 64 → EReal) : EReal :=
  Ideal.div (((∑ k, Q k * X k) + ∑ k, (Q k - Q k) * X k) + ((∑ k, Q k * (X k - X k)) + ∑ k, (Q k - Q k) * (X k - X k)))
    (den (∑ k, Q k * Q k) ((∑ k, X k * X k) + ∑ k, (X k * X k - X k * X k)))

/-- A real's difference with itself is zero. -/
theorem sub_self_of_real {x : EReal} (h : ∃ r : ℝ, x = r) : x - x = 0 := by
  obtain ⟨r, rfl⟩ := h
  rw [← EReal.coe_sub, sub_self, EReal.coe_zero]

/-- A sum of products of reals is a real. -/
theorem sum_mul_real {A B : Fin 64 → EReal} (hA : ∀ k, ∃ r : ℝ, A k = r) (hB : ∀ k, ∃ r : ℝ, B k = r) :
    ∃ r : ℝ, ∑ k, A k * B k = r := by
  refine Finset.sum_induction _ (fun x : EReal => ∃ r : ℝ, x = r) ?_ ⟨0, EReal.coe_zero.symm⟩ fun k _ => ?_
  · rintro _ _ ⟨r, rfl⟩ ⟨r', rfl⟩
    exact ⟨r + r', (EReal.coe_add r r').symm⟩
  · obtain ⟨a, ha⟩ := hA k
    obtain ⟨b, hb⟩ := hB k
    exact ⟨a * b, by rw [ha, hb, EReal.coe_mul]⟩

/-- A square is not negative. -/
theorem mul_self_nonneg' (x : EReal) : 0 ≤ x * x := by
  rcases le_total 0 x with h | h
  · exact mul_nonneg h h
  · rw [← neg_mul_neg]
    exact mul_nonneg (EReal.neg_nonneg.2 h) (EReal.neg_nonneg.2 h)

/-- With an infinite entry, the squared norm is infinite. -/
theorem sum_sq_top {Q : Fin 64 → EReal} (k : Fin 64) (h : Q k = ⊤ ∨ Q k = ⊥) : ∑ k, Q k * Q k = ⊤ := by
  have hk : Q k * Q k = ⊤ := by rcases h with h | h <;> rw [h] <;> rfl
  refine top_le_iff.1 (hk ▸ Finset.single_le_sum (f := fun k => Q k * Q k) (fun i _ => mul_self_nonneg' (Q i)) (Finset.mem_univ k))

/-- A finite row whose squared norm is zero is zero. -/
theorem row_zero {X : Fin 64 → EReal} (h : ∑ k, X k * X k = 0) (k : Fin 64) : X k = 0 := by
  have h1 := (Finset.sum_eq_zero_iff_of_nonneg fun i _ => mul_self_nonneg' (X i)).1 h k (Finset.mem_univ k)
  exact (mul_self_eq_zero).1 h1

/-- Over a finite row and an infinite query the similarity is zero whatever the rest of the numerator is made of. -/
theorem div_infinite {X : Fin 64 → EReal} (hX : ∀ k, ∃ r : ℝ, X k = r) (n : EReal) (hn : (∀ k, X k = 0) → n = 0) :
    Ideal.div n (den ⊤ (∑ k, X k * X k)) = 0 := by
  obtain ⟨e, he, hfl⟩ := floor_pos
  obtain ⟨r, hr⟩ := sum_mul_real hX hX
  have h0 : (0 : EReal) ≤ ∑ k, X k * X k := Finset.sum_nonneg fun i _ => mul_self_nonneg' (X i)
  rcases eq_or_lt_of_le h0 with h | h
  · rw [hn (row_zero h.symm)]
    have hd : den ⊤ (∑ k, X k * X k) ≠ 0 := by
      refine ne_of_gt (lt_of_lt_of_le ?_ (le_max_right _ _))
      rw [hfl]
      exact_mod_cast he
    rw [Ideal.div, if_neg hd, zero_mul]
  · have hrp : 0 < r := by rw [hr] at h; exact_mod_cast h
    have hs : Ideal.sqrt (∑ k, X k * X k) = ((Real.sqrt r : ℝ) : EReal) := by
      rw [hr]
      exact if_neg (not_lt.2 hrp.le)
    have hd : den ⊤ (∑ k, X k * X k) = ⊤ := by
      rw [den, hs, Ideal.sqrt_top, EReal.top_mul_coe_of_pos (Real.sqrt_pos.2 hrp)]
      exact max_eq_left le_top
    rw [hd, Ideal.div, if_neg EReal.top_ne_zero, EReal.inv_top, mul_zero]

/-- **Over a finite row the kernel's similarity is the reference's**, and it is not `⊥`. -/
theorem simParts_eq {Q X : Fin 64 → EReal} (hX : ∀ k, ∃ r : ℝ, X k = r) : simParts Q X = sim Q X ∧ sim Q X ≠ ⊥ := by
  have hXX : ∀ k, X k - X k = 0 := fun k => sub_self_of_real (hX k)
  have hsq : ∀ k, X k * X k - X k * X k = 0 := fun k => sub_self_of_real (by
    obtain ⟨r, hr⟩ := hX k
    exact ⟨r * r, by rw [hr, EReal.coe_mul]⟩)
  by_cases hQ : ∃ k, Q k = ⊤ ∨ Q k = ⊥
  · obtain ⟨k, hk⟩ := hQ
    have e1 : sim Q X = 0 := by
      rw [sim, sum_sq_top k hk]
      exact div_infinite hX _ fun h => Finset.sum_eq_zero fun k _ => by rw [h, mul_zero]
    have e2 : simParts Q X = 0 := by
      rw [simParts, sum_sq_top k hk]
      simp only [hsq, Finset.sum_const_zero, add_zero]
      refine div_infinite hX _ fun h => ?_
      simp [h]
    exact ⟨e2.trans e1.symm, e1 ▸ EReal.zero_ne_bot⟩
  · have hQ' : ∀ k, ∃ r : ℝ, Q k = r := fun k => by
      have hk := not_or.1 (fun h => hQ ⟨k, h⟩)
      exact ⟨(Q k).toReal, (EReal.coe_toReal hk.1 hk.2).symm⟩
    have hQQ : ∀ k, Q k - Q k = 0 := fun k => sub_self_of_real (hQ' k)
    refine ⟨?_, ?_⟩
    · simp only [simParts, sim, hXX, hsq, hQQ, mul_zero, zero_mul, Finset.sum_const_zero, add_zero]
    · obtain ⟨e, he, hfl⟩ := floor_pos
      obtain ⟨a, ha⟩ := sum_mul_real hQ' hX
      obtain ⟨b, hb⟩ := sum_mul_real hQ' hQ'
      obtain ⟨c, hc⟩ := sum_mul_real hX hX
      have hb0 : 0 ≤ b := by
        have : (0 : EReal) ≤ b := hb ▸ Finset.sum_nonneg fun i _ => mul_self_nonneg' (Q i)
        exact_mod_cast this
      have hc0 : 0 ≤ c := by
        have : (0 : EReal) ≤ c := hc ▸ Finset.sum_nonneg fun i _ => mul_self_nonneg' (X i)
        exact_mod_cast this
      have hd : den b c = ((max (Real.sqrt b * Real.sqrt c) e : ℝ) : EReal) := by
        rw [den, hfl, Ideal.sqrt_coe, Ideal.sqrt_coe, if_neg (not_lt.2 hb0), if_neg (not_lt.2 hc0), ← EReal.coe_mul]
        exact (EReal.coe_strictMono.monotone.map_max).symm
      have hpos : (0 : ℝ) < max (Real.sqrt b * Real.sqrt c) e := lt_of_lt_of_le he (le_max_right _ _)
      have hne : ((max (Real.sqrt b * Real.sqrt c) e : ℝ) : EReal) ≠ 0 := by exact_mod_cast hpos.ne'
      rw [sim, ha, hb, hc, hd, Ideal.div, if_neg hne, ← EReal.coe_inv, ← EReal.coe_mul]
      exact EReal.coe_ne_bot _

/-- One less a similarity that is not `⊥` is not `⊤`. -/
theorem one_sub_ne_top {s : EReal} (h : s ≠ ⊥) : 1 - s ≠ ⊤ := by
  induction s with
  | bot => exact absurd rfl h
  | coe r => rw [← EReal.coe_one, ← EReal.coe_sub]; exact EReal.coe_ne_top _
  | top => rw [EReal.sub_top]; exact bot_ne_top

/-- The distances of the query from the rows, by position. Past the last row the value does not matter. -/
def dist (Q : Fin 64 → EReal) (X : Fin 1000000 → Fin 64 → EReal) (i : ℕ) : EReal :=
  if h : i < 1000000 then 1 - sim Q (X ⟨i, h⟩) else 0

theorem dist_of_lt (Q : Fin 64 → EReal) (X : Fin 1000000 → Fin 64 → EReal) {i : ℕ} (h : i < 1000000) :
    dist Q X i = 1 - sim Q (X ⟨i, h⟩) := dif_pos h

/-- Over finite rows no distance is `⊤`. -/
theorem dist_ne_top (Q : Fin 64 → EReal) (X : Fin 1000000 → Fin 64 → EReal) (hX : ∀ i k, ∃ r : ℝ, X i k = r) (i : ℕ) :
    dist Q X i ≠ ⊤ := by
  by_cases h : i < 1000000
  · rw [dist_of_lt Q X h]
    exact one_sub_ne_top (simParts_eq (Q := Q) (hX ⟨i, h⟩)).2
  · rw [dist, dif_neg h]
    exact EReal.zero_ne_top

end Cert.Similarity
-- ==== Proof.Distances.lean ====
/- The block's row of distances, entry by entry: one less the similarity of the query and the row, in high and low parts. -/
module

public import proofs.«01_k».proof.Proof.Folds
public import proofs.«01_k».proof.Proof.Similarity
public import Idealize.ShloMosaic.Lib.MatmulPlain
public import Idealize.ShloMosaic.Lib.IdealHost
public import Idealize.ShloMosaic.Lib.Pipeline.Value

@[expose] public section

set_option maxRecDepth 65536

noncomputable section

namespace Cert.KernelIdeal.Steps

open Idealize.ShloMosaic Idealize.ShloMosaic.Pipeline Cert.KernelIdeal.Gen Cert.Similarity
open scoped BigOperators

/-- The high part of an array. -/
def hi {s : Shape} (x : FVec Ideal s .f32) : FVec Ideal s .bf16 := truncf .bf16 x bitsLt_bf16_f32

/-- The rest of an array over its high part. -/
def lo {s : Shape} (x : FVec Ideal s .f32) : FVec Ideal s .bf16 :=
  truncf .bf16 (subf x (extf .f32 (hi x) bitsLt_bf16_f32)) bitsLt_bf16_f32

/-- The two parts of the query, one row each. -/
def both (q : FVec Ideal S1x64 .f32) : FVec Ideal S2x64 .bf16 :=
  concatenate S2x64 0 [⟨S1x64, hi q⟩, ⟨S1x64, lo q⟩] concatenates_S1x64_S1x64_S2x64_d0

/-- Both parts of the query against the rows of `x`. -/
def prod (q : FVec Ideal S1x64 .f32) (x : FVec Ideal S25000x64 .bf16) : FVec Ideal S2x25000 .f32 :=
  matmul dot_S2x64_S25000x64_S2x25000_1_1_0_0_n_n none (both q) x (constant S2x25000 .f32 0x00000000#32)

/-- The two rows of a product added. -/
def rows (v : FVec Ideal S2x25000 .f32) : FVec Ideal S1x25000 .f32 :=
  addf (extractStridedSlice S1x25000 ![0, 0] v slices_S2x25000_o0_0_S1x25000)
    (extractStridedSlice S1x25000 ![1, 0] v slices_S2x25000_o1_0_S1x25000)

/-- The sum of each row of `x`. -/
def sums (x : FVec Ideal S25000x64 .bf16) : FVec Ideal S1x25000 .f32 :=
  matmul dot_S1x64_S25000x64_S1x25000_1_1_0_0_n_n none (broadcast S1x64 (Scalar.ofBits .bf16 0x3F80#16)) x
    (constant S1x25000 .f32 0x00000000#32)

/-- The query's squared norm. -/
def norm2 (q : FVec Ideal S1x64 .f32) : EReal :=
  extractAt ![0, 0, 0] (shapeCast S1x1x1 (multiReduction .add [1, 2] S1 (shapeCast S1x1x64 (mulf q q) shapeCasts_S1x64_S1x1x64)
    0x00000000#32 reduces_S1x1x64_S1 (.inl rfl) rfl) shapeCasts_S1_S1x1x1) inpos_S1x1x1_p0_0_0

/-- The quotient the kernel computes, in these terms. -/
theorem quotient_eq (q : FVec Ideal S1x64 .f32) (x : FVec Ideal S25000x64 .f32) :
    k0_pay65 (F := Ideal) q x = divf (addf (rows (prod q (hi x))) (rows (prod q (lo x))))
      (maximumf (mulf (broadcast S1x25000 (Ideal.sqrt (norm2 q))) (sqrt (addf (sums (hi (mulf x x))) (sums (lo (mulf x x))))))
        (broadcast S1x25000 (Scalar.ofBits .f32 0x322BCC77#32))) := by
  rw [k0_pay65]
  rfl

/-- The squared norm is the sum of the squares. -/
theorem norm2_eq (q : FVec Ideal S1x64 .f32) : norm2 q = ∑ k : Fin 64, q (ValueIdx.ix2 (0 : Fin 1) k) * q (ValueIdx.ix2 (0 : Fin 1) k) := by
  obtain ⟨j, hj⟩ := extract_one (multiReduction .add [1, 2] S1 (shapeCast S1x1x64 (mulf q q) shapeCasts_S1x64_S1x1x64)
    0x00000000#32 reduces_S1x1x64_S1 (.inl rfl) rfl)
  refine (hj.trans (Ideal.multiReduction_add_total (shapeCast S1x1x64 (mulf q q) shapeCasts_S1x64_S1x1x64) 0x00000000#32
    reduces_S1x1x64_S1 size_S1 (.inl rfl) rfl j)).trans ?_
  have e : ∑ i : S1x1x64.Idx, shapeCast S1x1x64 (mulf q q) shapeCasts_S1x64_S1x1x64 i = ∑ i : S1x64.Idx, q i * q i :=
    Equiv.sum_comp (Shape.reshapeEquiv shapeCasts_S1x64_S1x1x64) fun i => q i * q i
  rw [e, ValueIdx.sum_idx2]
  simp

/-- The two rows of the parts of the query. -/
theorem both_hi (q : FVec Ideal S1x64 .f32) (k : Fin 64) : both q (ValueIdx.ix2 (0 : Fin 2) k) = q (ValueIdx.ix2 (0 : Fin 1) k) :=
  concatenate_pair_apply_left (t := S2x64) (s₁ := S1x64) (s₂ := S1x64) 0 (hi q) (lo q) _ _ rfl (ValueIdx.ix2 (0 : Fin 1) k) fun b => by
    match b with
    | ⟨0, _⟩ => rfl
    | ⟨1, _⟩ => rfl

theorem both_lo (q : FVec Ideal S1x64 .f32) (k : Fin 64) :
    both q (ValueIdx.ix2 (1 : Fin 2) k) = q (ValueIdx.ix2 (0 : Fin 1) k) - q (ValueIdx.ix2 (0 : Fin 1) k) :=
  concatenate_pair_apply_right (t := S2x64) (s₁ := S1x64) (s₂ := S1x64) 0 (hi q) (lo q) _ _ rfl rfl (ValueIdx.ix2 (0 : Fin 1) k)
    (fun b hb => by
      match b, hb with
      | ⟨0, _⟩, hb => exact absurd rfl hb
      | ⟨1, _⟩, _ => rfl)
    rfl

/-- A product at an entry. -/
theorem prod_apply (q : FVec Ideal S1x64 .f32) (x : FVec Ideal S25000x64 .bf16) (r : Fin 2) (c : Fin 25000) :
    prod q x (ValueIdx.ix2 r c) = ∑ k : Fin 64, both q (ValueIdx.ix2 r k) * x (ValueIdx.ix2 c k) := by
  have e := Ideal.matmul_transposedRhs_apply (M := 2) (K := 64) (N := 25000) none (both q) x (constant S2x25000 .f32 0x00000000#32) r c
  rw [ValueIdx.constant_apply, Ideal.ofBits_zero_f32, zero_add] at e
  exact e

/-- A row's two products added. -/
theorem rows_prod (q : FVec Ideal S1x64 .f32) (x : FVec Ideal S25000x64 .bf16) (c : Fin 25000) :
    rows (prod q x) (ValueIdx.ix2 (0 : Fin 1) c) = (∑ k : Fin 64, q (ValueIdx.ix2 (0 : Fin 1) k) * x (ValueIdx.ix2 c k))
      + ∑ k : Fin 64, (q (ValueIdx.ix2 (0 : Fin 1) k) - q (ValueIdx.ix2 (0 : Fin 1) k)) * x (ValueIdx.ix2 c k) := by
  have e : ∀ (r : Fin 2) (h : S2x25000.Slices ![r.val, 0] S1x25000),
      extractStridedSlice S1x25000 ![r.val, 0] (prod q x) h (ValueIdx.ix2 (0 : Fin 1) c) = prod q x (ValueIdx.ix2 r c) := fun r h => by
    refine congrArg (prod q x) (funext fun a => Fin.ext ?_)
    match a with
    | ⟨0, _⟩ => exact Nat.add_zero _
    | ⟨1, _⟩ => exact Nat.zero_add _
  have e0 := e 0 slices_S2x25000_o0_0_S1x25000
  have e1 := e 1 slices_S2x25000_o1_0_S1x25000
  rw [prod_apply] at e0 e1
  simp only [both_hi] at e0
  simp only [both_lo] at e1
  exact congrArg₂ (· + ·) e0 e1

/-- The sum of a row. -/
theorem sums_apply (x : FVec Ideal S25000x64 .bf16) (c : Fin 25000) :
    sums x (ValueIdx.ix2 (0 : Fin 1) c) = ∑ k : Fin 64, x (ValueIdx.ix2 c k) := by
  have e := Ideal.matmul_transposedRhs_apply (M := 1) (K := 64) (N := 25000) none
    (broadcast S1x64 (Scalar.ofBits .bf16 0x3F80#16 : Ideal .bf16)) x (constant S1x25000 .f32 0x00000000#32) 0 c
  rw [ValueIdx.constant_apply, Ideal.ofBits_zero_f32, zero_add] at e
  refine Eq.trans e (Finset.sum_congr rfl fun k _ => ?_)
  rw [show (broadcast S1x64 (Scalar.ofBits .bf16 0x3F80#16 : Ideal .bf16)) (ValueIdx.ix2 0 k) = (1 : EReal) from Ideal.ofBits_one_bf16, one_mul]

/-- A row of the block, and the query, as entries. -/
theorem dists_apply (q : FVec Ideal S1x64 .f32) (x : FVec Ideal S25000x64 .f32) (c : Fin 25000) :
    dists (F := Ideal) q x (ValueIdx.ix2 (0 : Fin 1) c)
      = 1 - simParts (fun k => q (ValueIdx.ix2 (0 : Fin 1) k)) (fun k => x (ValueIdx.ix2 c k)) := by
  have e : dists (F := Ideal) q x (ValueIdx.ix2 (0 : Fin 1) c)
      = Ideal.ofBits .f32 0x3F800000#32 - k0_pay65 (F := Ideal) q x (ValueIdx.ix2 (0 : Fin 1) c) := by
    rw [dists, k0_pay1]
    rfl
  have e2 : k0_pay65 (F := Ideal) q x (ValueIdx.ix2 (0 : Fin 1) c)
      = Ideal.div (rows (prod q (hi x)) (ValueIdx.ix2 (0 : Fin 1) c) + rows (prod q (lo x)) (ValueIdx.ix2 (0 : Fin 1) c))
        (den (norm2 q) (sums (hi (mulf x x)) (ValueIdx.ix2 (0 : Fin 1) c) + sums (lo (mulf x x)) (ValueIdx.ix2 (0 : Fin 1) c))) := by
    rw [quotient_eq]
    rfl
  rw [e, e2, Ideal.ofBits_one_f32, rows_prod, rows_prod, sums_apply, sums_apply, norm2_eq]
  rfl

end Cert.KernelIdeal.Steps
-- ==== Proof.Order.lean ====
/- Selecting the smallest entries of a family of extended reals, ties by position: the order, one selection step, and
   sixteen of them. Nothing here knows the kernel. -/
module

public import Mathlib.Data.EReal.Basic
public import Mathlib.Data.Fintype.EquivFin
public import Mathlib.Data.Finset.Card
public import Mathlib.Order.Interval.Finset.Nat

@[expose] public section

namespace Cert.Order

variable (D : ℕ → EReal)

/-- Position `i` comes before position `k`: its value is smaller, or equal with `i` the smaller position. -/
def Lt (i k : ℕ) : Prop := D i < D k ∨ (D i = D k ∧ i < k)

theorem Lt.irrefl (i : ℕ) : ¬ Lt D i i := by
  rintro (h | ⟨-, h⟩)
  · exact lt_irrefl _ h
  · exact Nat.lt_irrefl _ h

variable {D}

theorem Lt.trans {i j k : ℕ} (h : Lt D i j) (h' : Lt D j k) : Lt D i k := by
  rcases h with h | ⟨e, h⟩ <;> rcases h' with h' | ⟨e', h'⟩
  · exact .inl (h.trans h')
  · exact .inl (e' ▸ h)
  · exact .inl (e ▸ h')
  · exact .inr ⟨e.trans e', Nat.lt_trans h h'⟩

theorem Lt.total {i k : ℕ} (h : i ≠ k) : Lt D i k ∨ Lt D k i := by
  rcases lt_trichotomy (D i) (D k) with h1 | h1 | h1
  · exact .inl (.inl h1)
  · rcases Nat.lt_or_gt_of_ne h with h2 | h2
    · exact .inl (.inr ⟨h1, h2⟩)
    · exact .inr (.inr ⟨h1.symm, h2⟩)
  · exact .inr (.inl h1)

variable (D)

/-- The sixteen positions `σ` are, in order, the first sixteen of the positions below `n`. -/
structure Best (n : ℕ) (σ : Fin 16 → ℕ) : Prop where
  below : ∀ j, σ j < n
  ord : ∀ j k, j < k → Lt D (σ j) (σ k)
  dom : ∀ i, i < n → (∀ j, σ j ≠ i) → ∀ j, Lt D (σ j) i

theorem Best.injective {n : ℕ} {σ : Fin 16 → ℕ} (h : Best D n σ) : Function.Injective σ := by
  intro j k e
  by_contra hne
  rcases lt_or_gt_of_ne hne with hlt | hlt
  · exact Lt.irrefl D (σ k) (e ▸ h.ord j k hlt)
  · exact Lt.irrefl D (σ k) (by simpa [e] using h.ord k j hlt)

/-- The candidates `cd` at positions `c` hold exactly the positions in play, `S`, each with its value; a candidate out of
    play has value `⊤`. -/
structure Play {P : Type} (S : ℕ → Prop) (c : P → ℕ) (cd : P → EReal) : Prop where
  val : ∀ p, cd p ≠ ⊤ → S (c p) ∧ cd p = D (c p)
  cov : ∀ i, S i → ∃ p, c p = i ∧ cd p = D i

/-- `a` is the first of the positions in play. -/
def IsFirst (S : ℕ → Prop) (a : ℕ) : Prop := S a ∧ ∀ k, S k → k ≠ a → Lt D a k

variable {D}

/-- One selection step finds the first position in play and puts it out of play. -/
theorem Play.step {P : Type} {S : ℕ → Prop} {c : P → ℕ} {cd : P → EReal} (h : Play D S c cd) (hfin : ∀ i, D i ≠ ⊤)
    (hS : ∃ i, S i) (m : EReal) (hm : ∀ p, m ≤ cd p) (hm' : ∃ p, cd p = m) (a : ℕ) (ha : ∀ p, cd p = m → a ≤ c p)
    (ha' : (∃ p, cd p = m) → ∃ p, cd p = m ∧ c p = a) :
    IsFirst D S a ∧ m = D a ∧ Play D (fun i => S i ∧ i ≠ a) c (fun p => if c p = a then ⊤ else cd p) := by
  obtain ⟨p, hp, hpa⟩ := ha' hm'
  obtain ⟨i, hi⟩ := hS
  obtain ⟨p1, -, hp1⟩ := h.cov i hi
  have hmt : m ≠ ⊤ := fun e => hfin i (by rw [← hp1]; exact top_le_iff.mp (e ▸ hm p1))
  obtain ⟨hSa, hDa⟩ := h.val p (by rw [hp]; exact hmt)
  rw [hpa] at hSa hDa
  have hma : m = D a := hp.symm.trans hDa
  refine ⟨⟨hSa, fun k hk hne => ?_⟩, hma, ⟨fun p' hp' => ?_, fun k hk => ?_⟩⟩
  · obtain ⟨p2, hc2, hp2⟩ := h.cov k hk
    have hle : m ≤ D k := hp2 ▸ hm p2
    rcases lt_or_eq_of_le hle with hlt | heq
    · exact .inl (hma ▸ hlt)
    · have := ha p2 (hp2.trans heq.symm)
      rw [hc2] at this
      exact .inr ⟨hma.symm.trans heq, lt_of_le_of_ne this (Ne.symm hne)⟩
  · by_cases e : c p' = a
    · rw [if_pos e] at hp'; exact absurd rfl hp'
    · rw [if_neg e] at hp' ⊢
      exact ⟨⟨(h.val p' hp').1, e⟩, (h.val p' hp').2⟩
  · obtain ⟨p2, hc2, hp2⟩ := h.cov k hk.1
    exact ⟨p2, hc2, by rw [if_neg (by rw [hc2]; exact hk.2)]; exact hp2⟩

/-- The positions still in play after the picks `a 0, …, a (n - 1)`. -/
def Left (S : ℕ → Prop) (a : ℕ → ℕ) (n : ℕ) (i : ℕ) : Prop := S i ∧ ∀ l < n, i ≠ a l

theorem left_succ (S : ℕ → Prop) (a : ℕ → ℕ) (n : ℕ) : (fun i => Left S a n i ∧ i ≠ a n) = Left S a (n + 1) := by
  funext i
  refine propext ⟨fun ⟨⟨h1, h2⟩, h3⟩ => ⟨h1, fun l hl => ?_⟩, fun ⟨h1, h2⟩ => ⟨⟨h1, fun l hl => h2 l (by omega)⟩, h2 n (by omega)⟩⟩
  rcases Nat.lt_succ_iff_lt_or_eq.mp hl with hl | rfl
  · exact h2 l hl
  · exact h3

/-- Fewer than sixteen picks cannot exhaust sixteen consecutive positions in play. -/
theorem left_nonempty (S : ℕ → Prop) (a : ℕ → ℕ) (n : ℕ) (hn : n < 16) (b : ℕ) (hb : ∀ r < 16, S (b + r)) : ∃ i, Left S a n i := by
  have hc : ((Finset.range n).image a).card < ((Finset.range 16).image (b + ·)).card := by
    rw [Finset.card_image_of_injective (Finset.range 16) (add_right_injective b), Finset.card_range]
    exact (Finset.card_image_le.trans (Finset.card_range n).le).trans_lt hn
  obtain ⟨i, hi, hi'⟩ := Finset.exists_mem_notMem_of_card_lt_card hc
  obtain ⟨r, hr, rfl⟩ := Finset.mem_image.mp hi
  refine ⟨b + r, hb r (Finset.mem_range.mp hr), fun l hl e => hi' (Finset.mem_image.mpr ⟨l, Finset.mem_range.mpr hl, e.symm⟩)⟩

/-- Sixteen picks, each the first of what is left of `S`, are in order and come before everything else in `S`. -/
theorem picks_ord {S : ℕ → Prop} {a : ℕ → ℕ} (h : ∀ l < 16, IsFirst D (Left S a l) (a l)) :
    (∀ l < 16, S (a l)) ∧ (∀ j k, j < k → k < 16 → Lt D (a j) (a k))
      ∧ ∀ i, S i → (∀ l < 16, a l ≠ i) → ∀ l < 16, Lt D (a l) i := by
  refine ⟨fun l hl => (h l hl).1.1, fun j k hjk hk => ?_, fun i hi hne l hl => ?_⟩
  · obtain ⟨h1, h2⟩ := (h k hk).1
    exact (h j (by omega)).2 (a k) ⟨h1, fun l hl => h2 l (by omega)⟩ (h2 j hjk)
  · exact (h l hl).2 i ⟨hi, fun l' hl' => (hne l' (by omega)).symm⟩ (hne l hl).symm

/-- Merging a block of positions into the first sixteen of the positions below it: sixteen picks from the block and those
    sixteen (from the block alone if there is nothing below it) are the first sixteen of all the positions so far. -/
theorem Best.merge {n b : ℕ} {S : ℕ → Prop} {a : ℕ → ℕ} (h : ∀ l < 16, IsFirst D (Left S a l) (a l))
    (hS : ∀ i, S i → i < n + b) (hblock : ∀ i, n ≤ i → i < n + b → S i)
    (hheld : n = 0 ∨ ∃ σ, Best D n σ ∧ ∀ j, S (σ j)) : Best D (n + b) (fun j : Fin 16 => a j.val) := by
  obtain ⟨h1, h2, h3⟩ := picks_ord h
  refine ⟨fun j => hS _ (h1 j.val j.isLt), fun j k hjk => h2 _ _ hjk k.isLt, fun i hi hne j => ?_⟩
  have hne' : ∀ l < 16, a l ≠ i := fun l hl => hne ⟨l, hl⟩
  by_cases hSi : S i
  · exact h3 i hSi hne' j.val j.isLt
  -- `i` was already dropped: all sixteen held positions come before it
  rcases hheld with rfl | ⟨σ, hσ, hσS⟩
  · exact absurd (hblock i (Nat.zero_le _) hi) hSi
  have hin : i < n := by by_contra hc; exact hSi (hblock i (by omega) hi)
  have hbefore : ∀ k, Lt D (σ k) i := hσ.dom i hin fun k e => hSi (e ▸ hσS k)
  by_contra hnot
  have hij : Lt D i (a j.val) := (Lt.total (hne' j.val j.isLt).symm).resolve_right hnot
  -- so they are all among the picks before `j`
  have hf : ∀ k : Fin 16, ∃ l : Fin 16, a l.val = σ k ∧ l < j := by
    intro k
    have hk : Lt D (σ k) (a j.val) := (hbefore k).trans hij
    by_cases hx : ∃ l : Fin 16, a l.val = σ k
    · obtain ⟨l, hl⟩ := hx
      refine ⟨l, hl, ?_⟩
      by_contra hge
      rcases lt_or_eq_of_le (not_lt.mp hge) with hlt | heq
      · have h4 := h2 j.val l.val hlt l.isLt
        rw [hl] at h4
        exact Lt.irrefl D _ (h4.trans hk)
      · exact Lt.irrefl D _ (by rw [heq, hl] at hk; exact hk)
    · have h4 := h3 (σ k) (hσS k) (fun l hl e => hx ⟨⟨l, hl⟩, e⟩) j.val j.isLt
      exact absurd (h4.trans hk) (Lt.irrefl D _)
  choose f hf1 hf2 using hf
  have finj : Function.Injective f := fun k k' e => hσ.injective D (by rw [← hf1 k, ← hf1 k', e])
  obtain ⟨k, hk⟩ := (Finite.injective_iff_surjective.mp finj) (15 : Fin 16)
  have h5 : (15 : Fin 16) < j := hk ▸ hf2 k
  have h6 := j.isLt
  have h7 : 15 < j.val := h5
  omega

/-- A block none of whose values is below the last held one changes nothing. -/
theorem Best.skip {n b : ℕ} {σ : Fin 16 → ℕ} (h : Best D n σ) (hb : ∀ i, n ≤ i → i < n + b → ∀ j, D (σ j) ≤ D i) : Best D (n + b) σ := by
  refine ⟨fun j => (h.below j).trans_le (Nat.le_add_right _ _), h.ord, fun i hi hne j => ?_⟩
  by_cases hin : i < n
  · exact h.dom i hin hne j
  · rcases lt_or_eq_of_le (hb i (by omega) hi j) with hlt | heq
    · exact .inl hlt
    · exact .inr ⟨heq, (h.below j).trans_le (by omega)⟩

end Cert.Order
-- ==== Proof.Select.lean ====
/- The sixteen selection steps of a merge: each finds the first position still in play, and step `l` leaves its distance and
   position in column `l`. -/
module

public import proofs.«01_k».proof.Proof.Folds
public import proofs.«01_k».proof.Proof.Order

@[expose] public section

set_option maxRecDepth 65536

noncomputable section

namespace Cert.KernelIdeal.Steps

open Idealize.ShloMosaic Cert.KernelIdeal.Gen Cert.Order

/-! ### One step, entry by entry -/

/-- A choice by equality of words. -/
theorem select_cmpi_eq {α : Type} (x y : BitVec 32) (u v : α) : Scalar.select (IntOp.cmpi .eq x y) u v = if x = y then u else v := by
  by_cases h : x = y
  · simp [Scalar.select, IntOp.cmpi, h]
  · have hb : (x == y) = false := beq_eq_false_iff_ne.mpr h
    simp [Scalar.select, IntOp.cmpi, h, hb]

/-- A choice by equality of distances. -/
theorem select_cmpf_eq {α : Type} (x y : EReal) (u v : α) :
    Scalar.select (FloatOps.cmpf (F := Ideal) (φ := .f32) .oeq x y) u v = if x = y then u else v := by
  by_cases h : x = y <;> simp [Scalar.select, FloatOps.cmpf, Ideal.cmp, h]

/-- A row chosen by equality of words, at an index. -/
theorem select_row_eq {s : Shape} {α : Type} (x : IVec s 32) (y : BitVec 32) (u : α) (v : s.Idx → α) (p : s.Idx) :
    select (cmpi .eq x (broadcast s y)) (broadcast s u) v p = if x p = y then u else v p := select_cmpi_eq _ _ _ _

/-- The candidates a step leaves: those at the picked position are `⊤`. -/
theorem pick_cd (ci : IVec S1x25016 32) (j : BitVec 32) (s : Sel Ideal) (p : S1x25016.Idx) :
    (pick ci j s).cd p = if (ci p).toNat = (minPos (tied ci s.cd (minDist s.cd))).toNat then ⊤ else s.cd p := by
  have e : (pick ci j s).cd = select (cmpi .eq ci (broadcast S1x25016 (minPos (tied ci s.cd (minDist s.cd)))))
    (broadcast S1x25016 (Scalar.ofBits .f32 0x7F800000#32)) s.cd := by rw [pick]
  have ht : (Scalar.ofBits .f32 0x7F800000#32 : Ideal .f32) = (⊤ : EReal) := ofBits_inf
  rw [e, select_row_eq, ht]
  simp only [BitVec.toNat_inj]

/-- The tied row: positions where the distance is the smallest, the largest word elsewhere. -/
theorem tied_apply (ci : IVec S1x25016 32) (cd : FVec Ideal S1x25016 .f32) (m : EReal) (p : S1x25016.Idx) :
    tied (F := Ideal) ci cd m p = if cd p = m then ci p else 2147483647#32 := select_cmpf_eq _ _ _ _

/-- The column number of a column. -/
theorem cols_apply (j : S1x16.Idx) : cols j = BitVec.ofNat 32 (j 1).val := by
  simp [cols, iota]

/-- Two column numbers are the same word just when they are the same column. -/
theorem ofNat_eq_iff {j l : ℕ} (hj : j < 16) (hl : l < 16) : BitVec.ofNat 32 j = BitVec.ofNat 32 l ↔ j = l := by
  rw [← BitVec.toNat_inj, BitVec.toNat_ofNat, BitVec.toNat_ofNat, Nat.mod_eq_of_lt (by omega), Nat.mod_eq_of_lt (by omega)]

/-- The distance a step leaves in a column. -/
theorem pick_d (ci : IVec S1x25016 32) (l : ℕ) (hl : l < 16) (s : Sel Ideal) (j : S1x16.Idx) :
    (pick ci (BitVec.ofNat 32 l) s).d j = if (j 1).val = l then minDist s.cd else s.d j := by
  have hj : (j 1).val < 16 := (j 1).isLt
  show select _ _ s.d j = _
  rw [select_row_eq, cols_apply]
  simp only [ofNat_eq_iff hj hl]

/-- The position a step leaves in a column. -/
theorem pick_i (ci : IVec S1x25016 32) (l : ℕ) (hl : l < 16) (s : Sel Ideal) (j : S1x16.Idx) :
    (pick ci (BitVec.ofNat 32 l) s).i j = if (j 1).val = l then minPos (tied ci s.cd (minDist s.cd)) else s.i j := by
  have hj : (j 1).val < 16 := (j 1).isLt
  show select _ _ s.i j = _
  rw [select_row_eq, cols_apply]
  simp only [ofNat_eq_iff hj hl]

/-! ### The steps -/

section Steps
variable {D : ℕ → EReal} {S : ℕ → Prop} (ci : IVec S1x25016 32) (s : Sel Ideal)

/-- The distance step `l` picks. -/
def pickD (l : ℕ) : EReal := minDist (picks ci s l).cd

/-- The position step `l` picks, as a word. -/
def pickI (l : ℕ) : BitVec 32 := minPos (tied ci (picks ci s l).cd (minDist (picks ci s l).cd))

/-- What step `l` picks is left in column `l` by every later step. -/
theorem picks_cols (n : ℕ) (hn : n ≤ 16) (j : S1x16.Idx) (hj : (j 1).val < n) :
    (picks ci s n).d j = pickD ci s (j 1).val ∧ (picks ci s n).i j = pickI ci s (j 1).val := by
  induction n with
  | zero => exact absurd hj (Nat.not_lt_zero _)
  | succ n ih =>
    rw [picks, pick_d ci n (by omega), pick_i ci n (by omega)]
    by_cases h : (j 1).val = n
    · rw [if_pos h, if_pos h, h]
      exact ⟨rfl, rfl⟩
    · rw [if_neg h, if_neg h]
      exact ih (by omega) (by omega)

/-- The steps keep the candidates in step with the positions in play, and each picks the first of those. -/
theorem picks_play (hfin : ∀ i, D i ≠ ⊤) (hci : ∀ p, (ci p).toNat < 2147483647) (b : ℕ) (hb : ∀ r < 16, S (b + r))
    (h : Play D S (fun p => (ci p).toNat) s.cd) (n : ℕ) (hn : n ≤ 16) :
    Play D (Left S (fun l => (pickI ci s l).toNat) n) (fun p => (ci p).toNat) (picks ci s n).cd
      ∧ ∀ l < n, IsFirst D (Left S (fun l => (pickI ci s l).toNat) l) (pickI ci s l).toNat ∧ pickD ci s l = D (pickI ci s l).toNat := by
  induction n with
  | zero =>
    refine ⟨?_, fun l hl => absurd hl (Nat.not_lt_zero _)⟩
    have e : Left S (fun l => (pickI ci s l).toNat) 0 = S := funext fun i => propext ⟨And.left, fun h => ⟨h, fun l hl => absurd hl (Nat.not_lt_zero _)⟩⟩
    rw [e]
    exact h
  | succ n ih =>
    obtain ⟨hplay, hfirst⟩ := ih (by omega)
    obtain ⟨hm, hm'⟩ := minDist_facts (picks ci s n).cd
    have htl : ∀ p, (tied ci (picks ci s n).cd (minDist (picks ci s n).cd) p).toNat < 2 ^ 31 := fun p => by
      rw [tied_apply]
      split
      · exact (hci p).trans (by decide)
      · decide
    obtain ⟨ht, ht'⟩ := minPos_facts _ htl
    have ha : ∀ p, (picks ci s n).cd p = minDist (picks ci s n).cd → (pickI ci s n).toNat ≤ (ci p).toNat := fun p hp => by
      have := ht p
      rwa [tied_apply, if_pos hp] at this
    have hsmall : (pickI ci s n).toNat ≠ 2147483647 := fun e => by
      obtain ⟨p, hp⟩ := hm'
      have := ha p hp
      have := hci p
      omega
    have ha' : ∃ p, (picks ci s n).cd p = minDist (picks ci s n).cd ∧ (ci p).toNat = (pickI ci s n).toNat := by
      rcases ht' with ht' | ⟨p, hp⟩
      · exact absurd ht' hsmall
      · rw [tied_apply] at hp
        split at hp
        · exact ⟨p, ‹_›, hp⟩
        · exact absurd hp.symm hsmall
    obtain ⟨h1, h2, h3⟩ := hplay.step hfin (left_nonempty S _ n (by omega) b hb) _ hm hm' (pickI ci s n).toNat ha fun _ => ha'
    refine ⟨?_, fun l hl => ?_⟩
    · rw [← left_succ S (fun l => (pickI ci s l).toNat) n]
      have e : (picks ci s (n + 1)).cd = fun p => if (ci p).toNat = (pickI ci s n).toNat then ⊤ else (picks ci s n).cd p :=
        funext fun p => pick_cd ci _ (picks ci s n) p
      rw [e]
      exact h3
    · rcases Nat.lt_succ_iff_lt_or_eq.mp hl with hl | rfl
      · exact hfirst l hl
      · exact ⟨h1, h2⟩

end Steps

end Cert.KernelIdeal.Steps
-- ==== Proof.Merge.lean ====
/- Merging one block into the sixteen held entries: if the held entries are the first sixteen of the positions before the block,
   the merged ones are the first sixteen of the positions up to the block's end. -/
module

public import proofs.«01_k».proof.Proof.Select
public import Idealize.ShloMosaic.Lib.Pipeline.Value

@[expose] public section

set_option maxRecDepth 65536

noncomputable section

namespace Cert.KernelIdeal.Steps

open Idealize.ShloMosaic Idealize.ShloMosaic.Pipeline Cert.KernelIdeal.Gen Cert.Order

/-! ### The candidates, entry by entry -/

/-- Reshaping the held row to its own shape changes nothing. -/
theorem cast_held {α : Type} (v : S1x16.Idx → α) : shapeCast S1x16 v shapeCasts_S1x16_S1x16 = v :=
  funext fun i => congrArg v (Shape.reshapeEquiv_self _ i)

/-- The block's column under a candidate column. -/
def left (p : S1x25016.Idx) (hp : (p 1).val < 25000) : S1x25000.Idx := ValueIdx.ix2 (0 : Fin 1) ⟨(p 1).val, hp⟩

/-- The held column under a candidate column past the block. -/
def right (p : S1x25016.Idx) (hp : 25000 ≤ (p 1).val) : S1x16.Idx :=
  ValueIdx.ix2 (0 : Fin 1) ⟨(p 1).val - 25000, by have h : (p 1).val < 25016 := (p 1).isLt; omega⟩

/-- The first row coordinate of a one-row index is zero. -/
theorem row_zero (p : S1x25016.Idx) : (p 0).val = 0 := by
  have h : (p 0).val < 1 := (p 0).isLt
  omega

/-- A block's row followed by a held row, at a column of the block. -/
theorem cat_left {α : Type} (x : S1x25000.Idx → α) (y : S1x16.Idx → α) (p : S1x25016.Idx) (hp : (p 1).val < 25000) :
    concatenate S1x25016 1 [⟨S1x25000, x⟩, ⟨S1x16, y⟩] concatenates_S1x25000_S1x16_S1x25016_d1 p = x (left p hp) :=
  concatenate_pair_apply_left (t := S1x25016) (s₁ := S1x25000) (s₂ := S1x16) 1 x y _ p rfl (left p hp) fun b => by
    match b with
    | ⟨0, _⟩ => exact (row_zero p).symm
    | ⟨1, _⟩ => rfl

/-- A block's row followed by a held row, at a column past the block. -/
theorem cat_right {α : Type} (x : S1x25000.Idx → α) (y : S1x16.Idx → α) (p : S1x25016.Idx) (hp : 25000 ≤ (p 1).val) :
    concatenate S1x25016 1 [⟨S1x25000, x⟩, ⟨S1x16, y⟩] concatenates_S1x25000_S1x16_S1x25016_d1 p = y (right p hp) :=
  concatenate_pair_apply_right (t := S1x25016) (s₁ := S1x25000) (s₂ := S1x16) 1 x y _ p rfl rfl (right p hp)
    (fun b hb => by
      match b, hb with
      | ⟨0, _⟩, _ => exact (row_zero p).symm
      | ⟨1, _⟩, hb => exact absurd rfl hb)
    (show (p 1).val - 25000 + 25000 = (p 1).val by omega)

/-- The candidate distances are the block's and then the held ones. -/
theorem candDist_left (dist : FVec Ideal S1x25000 .f32) (hd : Vec Ideal S1x16 .f32) (p : S1x25016.Idx) (hp : (p 1).val < 25000) :
    k0_pay6 (F := Ideal) dist hd p = dist (left p hp) := by
  rw [k0_pay6]
  exact cat_left dist _ p hp

theorem candDist_right (dist : FVec Ideal S1x25000 .f32) (hd : Vec Ideal S1x16 .f32) (p : S1x25016.Idx) (hp : 25000 ≤ (p 1).val) :
    k0_pay6 (F := Ideal) dist hd p = hd (right p hp) := by
  rw [k0_pay6]
  exact (cat_right dist _ p hp).trans (congrFun (cast_held hd) _)

/-- The candidate positions are the block's row numbers and then the held ones. -/
theorem candPos_left (g : ℕ) (hg : g < 40) (hi : Vec Ideal S1x16 .i32) (p : S1x25016.Idx) (hp : (p 1).val < 25000) :
    (candPos (F := Ideal) (BitVec.ofNat 32 g) hi p).toNat = 25000 * g + (p 1).val := by
  have e : candPos (F := Ideal) (BitVec.ofNat 32 g) hi p
      = BitVec.ofNat 32 g * 25000#32 + iota .tc S1x25000 32 [1] iota_S1x25000_d1_w32 (left p hp) := by
    rw [candPos, k0_pay7]
    exact cat_left _ _ p hp
  have e2 : iota .tc S1x25000 32 [1] iota_S1x25000_d1_w32 (left p hp) = BitVec.ofNat 32 (p 1).val := by
    simp [iota, left]
  rw [e, e2, BitVec.toNat_add, BitVec.toNat_mul, BitVec.toNat_ofNat, BitVec.toNat_ofNat, BitVec.toNat_ofNat]
  omega

theorem candPos_right (g : BitVec 32) (hi : Vec Ideal S1x16 .i32) (p : S1x25016.Idx) (hp : 25000 ≤ (p 1).val) :
    candPos (F := Ideal) g hi p = hi (right p hp) := by
  rw [candPos, k0_pay7]
  exact (cat_right _ _ p hp).trans (congrFun (cast_held hi) _)

/-! ### The merge -/

section Merge
variable (D : ℕ → EReal)

/-- The held entries are, in order, the first sixteen of the positions below `n`, with their distances. -/
def Holds (n : ℕ) (h : Held Ideal) : Prop :=
  ∃ σ : Fin 16 → ℕ, Best D n σ ∧ ∀ j : S1x16.Idx, h.d j = D (σ (j 1)) ∧ h.i j = BitVec.ofNat 32 (σ (j 1))

/-- The held entries as the kernel starts: `+∞` and position zero throughout. -/
def Empty (h : Held Ideal) : Prop := ∀ j : S1x16.Idx, h.d j = (⊤ : EReal) ∧ h.i j = 0#32

/-- Merging block `g` takes the first sixteen before the block (nothing, before block zero) to the first sixteen up to its end. -/
theorem merge_holds (hfin : ∀ i, D i ≠ ⊤) (g : ℕ) (hg : g < 40) (dist : FVec Ideal S1x25000 .f32)
    (hdist : ∀ p : S1x25000.Idx, dist p = D (25000 * g + (p 1).val)) (h : Held Ideal)
    (hh : (g = 0 ∧ Empty h) ∨ Holds D (25000 * g) h) :
    Holds D (25000 * g + 25000) (merge (BitVec.ofNat 32 g) dist h) := by
  -- the positions in play: the block's, and the held ones
  let S : ℕ → Prop := fun i => (25000 * g ≤ i ∧ i < 25000 * g + 25000) ∨ ∃ j : S1x16.Idx, h.d j ≠ (⊤ : EReal) ∧ (h.i j).toNat = i
  let ci : IVec S1x25016 32 := candPos (F := Ideal) (BitVec.ofNat 32 g) h.i
  -- a held entry in play is a position before the block, with its distance
  have hheld : ∀ j : S1x16.Idx, (h.i j).toNat < 25000 * 40 ∧ (h.d j ≠ (⊤ : EReal) → (h.i j).toNat < 25000 * g ∧ h.d j = D (h.i j).toNat) := by
    intro j
    rcases hh with ⟨-, he⟩ | ⟨σ, hσ, hσ'⟩
    · refine ⟨?_, fun hne => absurd (he j).1 hne⟩
      rw [(he j).2]
      decide
    · have hb := hσ.below (j 1)
      have e : (BitVec.ofNat 32 (σ (j 1))).toNat = σ (j 1) := by
        rw [BitVec.toNat_ofNat]
        exact Nat.mod_eq_of_lt (by omega)
      rw [(hσ' j).2, e]
      exact ⟨by omega, fun _ => ⟨hb, (hσ' j).1⟩⟩
  have hlt : ∀ p, (ci p).toNat < 25000 * 40 := by
    intro p
    by_cases hp : (p 1).val < 25000
    · have e : (ci p).toNat = _ := candPos_left g hg h.i p hp
      omega
    · have e : ci p = _ := candPos_right (BitVec.ofNat 32 g) h.i p (not_lt.1 hp)
      rw [e]
      exact (hheld _).1
  have hplay : Play D S (fun p => (ci p).toNat) (start (F := Ideal) dist h.d).cd := by
    refine ⟨fun p hne => ?_, fun i hi => ?_⟩
    · change k0_pay6 (F := Ideal) dist h.d p ≠ (⊤ : EReal) at hne
      change S (ci p).toNat ∧ k0_pay6 (F := Ideal) dist h.d p = D (ci p).toNat
      by_cases hp : (p 1).val < 25000
      · have e : (ci p).toNat = _ := candPos_left g hg h.i p hp
        rw [e, candDist_left dist h.d p hp]
        exact ⟨.inl ⟨by omega, by omega⟩, hdist _⟩
      · have e : ci p = _ := candPos_right (BitVec.ofNat 32 g) h.i p (not_lt.1 hp)
        rw [candDist_right dist h.d p (not_lt.1 hp)] at hne ⊢
        rw [e]
        exact ⟨.inr ⟨_, hne, rfl⟩, ((hheld _).2 hne).2⟩
    · rcases hi with ⟨h1, h2⟩ | ⟨j, hne, hj⟩
      · let p : S1x25016.Idx := ValueIdx.ix2 (0 : Fin 1) (⟨i - 25000 * g, by omega⟩ : Fin 25016)
        have hp : (p 1).val < 25000 := show i - 25000 * g < 25000 by omega
        have hv : 25000 * g + (p 1).val = i := show 25000 * g + (i - 25000 * g) = i by omega
        refine ⟨p, (candPos_left g hg h.i p hp).trans hv, ?_⟩
        exact (candDist_left dist h.d p hp).trans ((hdist _).trans (congrArg D hv))
      · let p : S1x25016.Idx := ValueIdx.ix2 (0 : Fin 1) (⟨25000 + (j 1).val, by have h : (j 1).val < 16 := (j 1).isLt; omega⟩ : Fin 25016)
        have hp : 25000 ≤ (p 1).val := Nat.le_add_right _ _
        have hr : right p hp = j := by
          rw [ValueIdx.eq_ix2 j]
          funext a
          apply Fin.ext
          match a with
          | ⟨0, _⟩ => exact (show (0 : ℕ) = (j 0).val by have h : (j 0).val < 1 := (j 0).isLt; omega)
          | ⟨1, _⟩ => exact Nat.add_sub_cancel_left _ _
        refine ⟨p, ?_, ?_⟩
        · have e : ci p = _ := candPos_right (BitVec.ofNat 32 g) h.i p hp
          rw [hr] at e
          exact (congrArg BitVec.toNat e).trans hj
        · have e : k0_pay6 (F := Ideal) dist h.d p = _ := candDist_right dist h.d p hp
          rw [hr] at e
          exact e.trans (((hheld j).2 hne).2.trans (congrArg D hj))
  obtain ⟨-, hpick⟩ := picks_play ci (start (F := Ideal) dist h.d) hfin (fun p => (hlt p).trans (by decide)) (25000 * g)
    (fun r hr => .inl ⟨by omega, by omega⟩) hplay 16 le_rfl
  have hbest := Best.merge (D := D) (n := 25000 * g) (b := 25000) (S := S) (a := fun l => (pickI ci (start (F := Ideal) dist h.d) l).toNat)
    (fun l hl => (hpick l hl).1)
    (fun i hi => by
      rcases hi with hi | ⟨j, hne, hj⟩
      · exact hi.2
      · have := ((hheld j).2 hne).1
        omega)
    (fun i h1 h2 => .inl ⟨h1, h2⟩)
    (hh.imp (fun h0 => by rw [h0.1]) fun ⟨σ, hσ, hσ'⟩ => ⟨σ, hσ, fun j => .inr (by
      have hb := hσ.below j
      have e : (BitVec.ofNat 32 (σ j)).toNat = σ j := by
        rw [BitVec.toNat_ofNat]
        exact Nat.mod_eq_of_lt (by omega)
      refine ⟨ValueIdx.ix2 (0 : Fin 1) j, ?_, ?_⟩
      · rw [(hσ' _).1]
        exact hfin _
      · rw [(hσ' _).2]
        exact e)⟩)
  refine ⟨_, hbest, fun j => ?_⟩
  have hj : (j 1).val < 16 := (j 1).isLt
  obtain ⟨h1, h2⟩ := picks_cols ci (start (F := Ideal) dist h.d) 16 le_rfl j hj
  refine ⟨h1.trans (hpick _ hj).2, h2.trans ?_⟩
  exact BitVec.eq_of_toNat_eq (by simp [pickI])

end Merge

end Cert.KernelIdeal.Steps
-- ==== Proof.Result.lean ====
/- The two result arrays after the run are the held entries after the last point, and what the blocks the points load are
   in terms of the arguments. -/
module

public import proofs.«01_k».proof.Proof.Run
public import Idealize.ShloMosaic.Lib.Pipeline.ValueKit
public import Idealize.ShloMosaic.Lib.ValueIdxCore

@[expose] public section

set_option maxRecDepth 16384

noncomputable section

namespace Cert.KernelIdeal.Steps

open Idealize.ShloMosaic Idealize.ShloMosaic.TcCoe Idealize.SL.Sem
open Idealize.ShloMosaic.Pipeline (Dat)
open Cert.KernelIdeal.Gen

variable {F : FTy → Type} [FloatOps F]
variable (m : (ℓ : Loc nD τ sig) → Buf (Elt F) ℓ) (ρ : Dev nD → PrngReg)

/-- The last point. -/
def last : Fin cfg0.N := ⟨39, by rw [show cfg0.N = 40 from N_0]; decide⟩

/-- The array of distances ends at the held distances after the last point. -/
theorem arr_d (c : Dev nD) : (dats m 0 c).arrAt 2 cfg0.N = (heldAt m c 40).d := by
  refine (dats m 0 c).arrAt_eq_of_after_last 2 last (by decide +kernel) _ fun j => ?_
  rw [after_2]
  rfl

/-- The array of positions ends at the held positions after the last point. -/
theorem arr_i (c : Dev nD) : (dats m 0 c).arrAt 3 cfg0.N = (heldAt m c 40).i := by
  refine (dats m 0 c).arrAt_eq_of_after_last 3 last (by decide +kernel) _ fun j => ?_
  rw [after_3]
  rfl

/-- The run with its results read: both arrays at the held entries after the last point, the arguments unchanged. -/
theorem run_value : θ_run defs (onTc (τ := τ) (main (F := F))) ⟨m, fun _ => 0, ρ⟩ (fun r => ∀ c : Dev nD,
      r.2.mem ((c.tc : Thread nD τ).loc main_v0_0) = (heldAt m c 40).d
      ∧ r.2.mem ((c.tc : Thread nD τ).loc main_v0_1) = (heldAt m c 40).i
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 2).trans (arr_d m c), ((h.1 c).1 3).trans (arr_i m c),
      ((h.1 c).1 0).trans (((dats m 0 c).arrAt_in 0 rfl _).trans (A_eq m c 0)),
      ((h.1 c).1 1).trans (((dats m 0 c).arrAt_in 1 rfl _).trans (A_eq m c 1))⟩) (run_main m ρ)

/-- Every point loads the whole query. -/
theorem queryAt_eq (c : Dev nD) (t : Fin cfg0.N) : queryAt m c t = m ((c.tc : Thread nD τ).loc main_arg0) := by
  funext j
  unfold queryAt iblk
  rw [View.read_apply]
  show m ((c.tc : Thread nD τ).loc main_arg0) (((cfg0.win 0).blk t).view.emb j) = _
  congr 1
  funext a; apply Fin.ext
  refine (Pipeline.Window.rect_emb_val_of_index_zero (cfg0.win 0) t a ?_ j)
  fin_cases a <;> rfl

/-- Row `r` of the block at point `t` is row `25000 t + r` of the database. -/
theorem rowsAt_apply (c : Dev nD) (t : Fin cfg0.N) (r : Fin 25000) (k : Fin 64) (h : 25000 * t.val + r.val < 1000000) :
    rowsAt m c t (ValueIdx.ix2 r k) = m ((c.tc : Thread nD τ).loc main_arg1) (ValueIdx.ix2 ⟨25000 * t.val + r.val, h⟩ k) := by
  unfold rowsAt iblk
  rw [View.read_apply]
  show m ((c.tc : Thread nD τ).loc main_arg1) (((cfg0.win 1).blk t).view.emb _) = _
  congr 1
  funext a; apply Fin.ext
  refine (Pipeline.Window.rect_emb_val (cfg0.win 1) t _ a).trans ?_
  have e0 : (grid0.coords t 0).val = t.val / 1 % 40 := Pipeline.Grid.coords_val t 0 (by decide) rfl
  have ht : t.val < 40 := lt_of_lt_of_eq t.isLt N_0
  fin_cases a
  · show (BitVec.ofNat 32 (grid0.coords t 0).val).toNat * 25000 + r.val = 25000 * t.val + r.val
    rw [e0, BitVec.toNat_ofNat]; omega
  · show 0 * 64 + k.val = k.val
    omega

/-- The grid coordinate of point `t` is `t`. -/
theorem coord (t : Fin cfg0.N) : (grid0.coords t 0).val = t.val := by
  have e0 : (grid0.coords t 0).val = t.val / 1 % 40 := Pipeline.Grid.coords_val t 0 (by decide) rfl
  have ht : t.val < 40 := lt_of_lt_of_eq t.isLt N_0
  omega

end Cert.KernelIdeal.Steps

end
-- ==== Proof.Points.lean ====
/- The held entries over the grid: after `n` points they are the first sixteen of the first `25000 n` positions. -/
module

public import proofs.«01_k».proof.Proof.Merge
public import proofs.«01_k».proof.Proof.Result

@[expose] public section

set_option maxRecDepth 65536

noncomputable section

namespace Cert.KernelIdeal.Steps

open Idealize.ShloMosaic Idealize.ShloMosaic.TcCoe Cert.KernelIdeal.Gen Cert.Order

/-- A one-bit word tested as the kernel tests it. -/
theorem test_iff (b : BitVec 1) : Scalar.cmpi .ne (Scalar.extui b : BitVec 32) 0#32 = 1#1 ↔ b = 1#1 := by
  revert b
  decide

/-- The kernel merges a block just when the block's smallest distance is below the largest held one. -/
theorem merges_iff (q : Vec Ideal S1x64 .f32) (x : Vec Ideal S25000x64 .f32) (h : Held Ideal) :
    Merges q x h ↔ k0_pay2 (F := Ideal) (k0_pay65 q x) (Scalar.ofBits .f32 0x3F800000#32) < k0_pay3 (F := Ideal) h.d := by
  rw [Merges, test_iff]
  generalize k0_pay2 (F := Ideal) (k0_pay65 q x) (Scalar.ofBits .f32 0x3F800000#32) = a
  generalize k0_pay3 (F := Ideal) h.d = b
  have e : Scalar.cmpf (F := Ideal) (φ := .f32) .olt a b = BitVec.ofBool (decide (a < b)) := rfl
  rw [e]
  by_cases hab : a < b <;> simp [hab]

section Point
variable {D : ℕ → EReal}

/-- One point of the grid takes the first sixteen of the positions before its block to the first sixteen up to its block's end. -/
theorem point_holds (hfin : ∀ i, D i ≠ ⊤) (i : grid0.Coords) (hi : First i ↔ (i 0).val = 0) (q : Vec Ideal S1x64 .f32)
    (x : Vec Ideal S25000x64 .f32) (hdist : ∀ p : S1x25000.Idx, dists q x p = D (25000 * (i 0).val + (p 1).val)) (h : Held Ideal)
    (hh : (i 0).val = 0 ∨ Holds D (25000 * (i 0).val) h) :
    Holds D (25000 * (i 0).val + 25000) (point i q x h) := by
  have hg : (i 0).val < 40 := (i 0).isLt
  have hr : ((i 0).val = 0 ∧ Empty (reset i h)) ∨ Holds D (25000 * (i 0).val) (reset i h) := by
    by_cases h0 : (i 0).val = 0
    · refine .inl ⟨h0, fun j => ?_⟩
      rw [reset, if_pos (hi.2 h0)]
      exact ⟨ofBits_inf, rfl⟩
    · rw [reset, if_neg (fun hf => h0 (hi.1 hf))]
      exact .inr (hh.resolve_left h0)
  rw [point]
  generalize reset i h = r at hr ⊢
  by_cases hm : Merges q x r
  · rw [if_pos hm]
    exact merge_holds D hfin _ hg _ hdist r hr
  · rw [if_neg hm]
    rw [merges_iff, not_lt] at hm
    obtain ⟨hb, p, hp⟩ := blockMin_facts (k0_pay65 q x) (Ideal.ofBits .f32 0x3F800000#32)
    rcases hr with ⟨-, he⟩ | ⟨σ, hσ, hσ'⟩
    · have h1 := (heldMax_facts r.d (ValueIdx.ix2 (0 : Fin 1) (0 : Fin 16))).trans hm
      rw [(he _).1, top_le_iff] at h1
      exact absurd ((hdist p).symm.trans (hp.trans h1)) (hfin _)
    · refine ⟨σ, hσ.skip fun k hk hk' j => ?_, hσ'⟩
      have h1 := (heldMax_facts r.d (ValueIdx.ix2 (0 : Fin 1) j)).trans hm
      have h2 := hb (ValueIdx.ix2 (0 : Fin 1) ⟨k - 25000 * (i 0).val, by omega⟩)
      have h3 := hdist (ValueIdx.ix2 (0 : Fin 1) ⟨k - 25000 * (i 0).val, by omega⟩)
      have h4 : 25000 * (i 0).val + (k - 25000 * (i 0).val) = k := by omega
      rw [(hσ' _).1] at h1
      refine h1.trans (h2.trans ?_)
      exact (h3.trans (congrArg D h4)).le

variable (m : (ℓ : Loc nD τ sig) → Buf (Elt Ideal) ℓ) (c : Dev nD)

/-- After `n` points, `n` positive, the held entries are the first sixteen of the first `25000 n` positions. -/
theorem heldAt_holds (hfin : ∀ i, D i ≠ ⊤)
    (hdist : ∀ (t : Fin cfg0.N) (p : S1x25000.Idx), dists (queryAt m c t) (rowsAt m c t) p = D (25000 * t.val + (p 1).val))
    (n : ℕ) (hn : n < 40) : Holds D (25000 * n + 25000) (heldAt m c (n + 1)) := by
  have hN : cfg0.N = 40 := N_0
  have hstep : ∀ t : Fin cfg0.N, t.val = 0 ∨ Holds D (25000 * t.val) (heldAt m c t.val) →
      Holds D (25000 * t.val + 25000) (heldAt m c (t.val + 1)) := by
    intro t ht
    have hc := coord t
    have hp := point_holds (D := D) hfin (grid0.coords t) (by rw [hc]; exact first_iff t) (queryAt m c t) (rowsAt m c t)
      (by rw [hc]; exact hdist t) (heldAt m c t.val) (by rw [hc]; exact ht)
    rw [hc] at hp
    rw [heldAt_succ m c t]
    exact hp
  induction n with
  | zero => exact hstep ⟨0, by rw [hN]; omega⟩ (.inl rfl)
  | succ n ih => exact hstep ⟨n + 1, by rw [hN]; omega⟩ (.inr (ih (by omega)))

end Point

end Cert.KernelIdeal.Steps
-- ==== Proof.Agree.lean ====
/- The kernel's value over a finite database: the held entries at the end are the first sixteen positions by distance, with
   their distances. -/
module

public import proofs.«01_k».proof.Defs
public import proofs.«01_k».proof.Proof.Gen.Pre_finite
public import proofs.«01_k».proof.Proof.Distances
public import proofs.«01_k».proof.Proof.Points
public import Idealize.ShloMosaic.Lib.ReduceAll

@[expose] public section

set_option maxRecDepth 65536

noncomputable section

namespace Cert.KernelIdeal.Steps

open Idealize.ShloMosaic Idealize.ShloMosaic.TcCoe Cert.KernelIdeal.Gen Cert.Order Cert.Similarity

/-- A number whose absolute value is below the infinite pattern is a real. -/
theorem real_of_abs_lt (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = r := by
  have e : FloatOps.cmpf (F := Ideal) (φ := .f32) .olt (FloatOps.hostAbsf (F := Ideal) (φ := .f32) x) (FloatOps.ofBits (F := Ideal) .f32 0x7F800000#32)
      = BitVec.ofBool (decide (max x (-x) < Ideal.ofBits .f32 0x7F800000#32)) := rfl
  rw [e, show Ideal.ofBits .f32 0x7F800000#32 = ⊤ by simp [Ideal.ofBits, Ideal.ieee]] at h
  induction x with
  | bot => simp at h
  | coe r => exact ⟨r, rfl⟩
  | top => simp at h

/-- The precondition, read: every entry of the database is a real. -/
theorem real_of_pre (a0 : FVec Ideal S1x64 .f32) (a1 : FVec Ideal S1000000x64 .f32)
    (h : Cert.Pre_finite.fn (F := Ideal) a0 a1 = fun _ => 1#1) (i : S1000000x64.Idx) : ∃ r : ℝ, a1 i = r := by
  have : Subsingleton Cert.Pre_finite.S_.Idx := ⟨fun a b => (ValueIdx.eq_ix0 a).trans (ValueIdx.eq_ix0 b).symm⟩
  exact real_of_abs_lt _ (Host.reduce_andi_all _ _ _ _ _ (congrFun h ValueIdx.ix0) i)

section Final
variable (m : (ℓ : Loc nD τ sig) → Buf (Elt Ideal) ℓ) (c : Dev nD)

/-- The query's entries. -/
def query : Fin 64 → EReal := fun k => (m ((c.tc : Thread nD τ).loc main_arg0) : FVec Ideal S1x64 .f32) (ValueIdx.ix2 0 k)

/-- The database's rows. -/
def row : Fin 1000000 → Fin 64 → EReal := fun i k => (m ((c.tc : Thread nD τ).loc main_arg1) : FVec Ideal S1000000x64 .f32) (ValueIdx.ix2 i k)

/-- A block's distances are the distances of its rows. -/
theorem dists_block (hX : ∀ i k, ∃ r : ℝ, row m c i k = r) (t : Fin cfg0.N) (p : S1x25000.Idx) :
    dists (queryAt m c t) (rowsAt m c t) p = dist (query m c) (row m c) (25000 * t.val + (p 1).val) := by
  have ht : t.val < 40 := lt_of_lt_of_eq t.isLt N_0
  have hp : (p 1).val < 25000 := (p 1).isLt
  have hlt : 25000 * t.val + (p 1).val < 1000000 := by omega
  have e0 : p = ValueIdx.ix2 (0 : Fin 1) (p 1) := by
    refine (ValueIdx.eq_ix2 p).trans ?_
    rw [show p 0 = (0 : Fin 1) from Subsingleton.elim (α := Fin 1) _ _]
    rfl
  rw [dist_of_lt _ _ hlt, ← (simParts_eq (Q := query m c) (hX ⟨_, hlt⟩)).1]
  refine (congrArg (dists (queryAt m c t) (rowsAt m c t)) e0).trans ((dists_apply (queryAt m c t) (rowsAt m c t) (p 1)).trans ?_)
  rw [queryAt_eq]
  refine congrArg (fun X => 1 - simParts (query m c) X) ?_
  funext k
  exact rowsAt_apply m c t (p 1) k hlt

/-- After the last point the held entries are the first sixteen positions by distance. -/
theorem held_final (hX : ∀ i k, ∃ r : ℝ, row m c i k = r) : Holds (dist (query m c) (row m c)) 1000000 (heldAt m c 40) :=
  heldAt_holds m c (dist_ne_top _ _ hX) (dists_block m c hX) 39 (by decide)

end Final

end Cert.KernelIdeal.Steps
-- ==== Proof.Top.lean ====
/- The reference's stable top-k: its first sixteen are the first sixteen positions by value, ties by position. -/
module

public import proofs.«01_k».proof.Proof.Order
public import Idealize.ShloMosaic.Lib.SortPrefix
public import Idealize.ShloMosaic.Lib.ValueIdxCore
public import Idealize.ShloMosaic.PureOps.Ideal

@[expose] public section

noncomputable section

namespace Cert.Top

open Idealize.ShloMosaic Cert.Order

/-- A stable sort of positions in increasing order by a relation is the sort by that relation with equal keys ordered by
    position. -/
theorem stableSort_position {n : ℕ} (R e : Fin n → Fin n → Bool) (l : List (Fin n)) (hl : l.Pairwise (· < ·)) :
    stableSort R l = stableSort (fun k k' => R k k' || (e k k' && decide (k < k'))) l := by
  induction l with
  | nil => rfl
  | cons a l ih =>
    obtain ⟨h1, h2⟩ := List.pairwise_cons.1 hl
    rw [stableSort, stableSort, ih h2]
    refine insertBefore_congr _ _ a _ fun b hb => ?_
    have hb' := h1 b ((perm_stableSort _ l).mem_iff.1 hb)
    simp [not_lt.2 hb'.le]

/-- The same for the position each output comes from. -/
theorem sortedFrom_position {n : ℕ} (R e : Fin n → Fin n → Bool) :
    sortedFrom R = sortedFrom fun k k' => R k k' || (e k k' && decide (k < k')) := by
  funext k
  unfold sortedFrom
  refine List.get_of_eq ?_ _
  exact stableSort_position R e _ (List.pairwise_lt_finRange n)

/-- The first sixteen positions by value, ties by position, are where a stable sort of the negated values, greater first,
    takes its first sixteen from. -/
theorem sortedFrom_best {n : ℕ} (D : ℕ → EReal) (σ : Fin 16 → ℕ) (hσ : Best D n σ) (h16 : 16 ≤ n) (j : Fin 16) :
    sortedFrom (fun k k' : Fin n => FloatOps.cmpfTotal (F := Ideal) (φ := .f32) .gt (-D k.val) (-D k'.val) == 1#1) (j.castLE h16)
      = ⟨σ j, hσ.below j⟩ := by
  have e : (fun k k' : Fin n => FloatOps.cmpfTotal (F := Ideal) (φ := .f32) .gt (-D k.val) (-D k'.val) == 1#1)
      = fun k k' => decide (D k.val < D k'.val) := by
    funext k k'
    have e1 : FloatOps.cmpfTotal (F := Ideal) (φ := .f32) .gt (-D k.val) (-D k'.val) = BitVec.ofBool (decide (-D k'.val < -D k.val)) := rfl
    rw [e1]
    by_cases h : D k.val < D k'.val
    · simp [EReal.neg_lt_neg_iff, h]
    · have : BitVec.ofBool (decide (-D k'.val < -D k.val)) = 0#1 := by simp [EReal.neg_lt_neg_iff, h]
      rw [this]; simp [h]
  rw [e, sortedFrom_position _ fun k k' => decide (D k.val = D k'.val)]
  have hB := StrictTotalBefore.of_key_then_position (fun a b : EReal => decide (a < b)) (fun k : Fin n => D k.val)
    (fun a => by simp) (fun a b c h h' => by simp only [decide_eq_true_eq] at *; exact h.trans h')
    (fun a b => by simp only [decide_eq_true_eq]; exact lt_trichotomy a b)
  have hn : ∀ k k' : Fin n, Lt D k'.val k.val →
      (decide (D k.val < D k'.val) || (decide (D k.val = D k'.val) && decide (k < k'))) = false := by
    intro k k' h
    refine hB.asymm k' k ?_
    simp only [Bool.or_eq_true, Bool.and_eq_true, decide_eq_true_eq]
    exact h
  exact hB.sortedFrom_eq_of_prefix h16 (fun j => ⟨σ j, hσ.below j⟩) (fun i j h => hσ.injective D (Fin.mk.inj_iff.1 h))
    (fun i j hij => hn _ _ (hσ.ord i j hij))
    (fun i p hp => hn _ _ (hσ.dom p.val p.isLt (fun l hl => hp l (Fin.ext hl)) i)) j

end Cert.Top
-- ==== Proof.Reference.lean ====
/- The reference's value: its scores are the negated distances, and its two results the first sixteen positions by distance. -/
module

public import proofs.«01_k».proof.Proof.Gen.ReferenceIdeal.Run
public import proofs.«01_k».proof.Proof.Similarity
public import proofs.«01_k».proof.Proof.Top
public import Idealize.ShloMosaic.Lib.IdealHost
public import Idealize.ShloMosaic.Lib.SortFacts
public import Idealize.ShloMosaic.Lib.Pipeline.Value
public import Idealize.ShloMosaic.Lib.Pointwise.Reduce

@[expose] public section

set_option maxRecDepth 65536

noncomputable section

namespace Cert.ReferenceIdeal.Value

open Cert.ReferenceIdeal Cert.ReferenceIdeal.Gen Idealize.ShloMosaic Cert.Order Cert.Similarity
open scoped BigOperators

/-- A sum along the rows of a matrix, from zero. -/
theorem rowSum_apply {n : ℕ} {t : Shape} (v : FVec Ideal ⟨2, ![n, 64]⟩ .f32) (h : (⟨2, ![n, 64]⟩ : Shape).ReducesTo [1] t) (hu : 0 < S_.numel)
    (j : t.Idx) (a : Fin n) (ha : ∀ d : Fin t.rank, (j d).val = a.val) :
    Host.reduceAdd v (constant S_ .f32 0x00000000#32) h hu j = ∑ k : Fin 64, v (ValueIdx.ix2 a k) := by
  refine (ValueIdx.hostReduceAdd_apply v _ h hu j).trans ((Ideal.hostReduceAdd_r2_a1 h v _ j).trans ?_)
  have e0 : constant (F := Ideal) S_ .f32 0x00000000#32 (Shape.Idx.first hu) = (0 : EReal) := Ideal.ofBits_zero_f32
  rw [e0, zero_add]
  refine Finset.sum_congr rfl fun k _ => congrArg v ?_
  funext d
  match d with
  | ⟨0, _⟩ => exact Fin.ext (ha _)
  | ⟨1, _⟩ => rfl

/-- The stable top `k` of a rank-1 array, at a position: the value the stable sort puts there, and where it stood. -/
theorem topK_rank1 {n k : ℕ} {α : Type} (gt : α → α → BitVec 1) (v : (⟨1, ![n]⟩ : Shape).Idx → α)
    (h : (⟨1, ![n]⟩ : Shape).Slices (fun _ => 0) ⟨1, ![k]⟩) (hk : k ≤ n) (j : (⟨1, ![k]⟩ : Shape).Idx) :
    (Host.topK ⟨1, ![k]⟩ 0 gt v h).1 j
        = v (Shape.Idx.ofFin (sortedFrom (fun a b => gt (v (Shape.Idx.ofFin a)) (v (Shape.Idx.ofFin b)) == 1#1) ((j 0).castLE hk)))
    ∧ (Host.topK ⟨1, ![k]⟩ 0 gt v h).2 j
        = BitVec.ofNat 32 (sortedFrom (fun a b => gt (v (Shape.Idx.ofFin a)) (v (Shape.Idx.ofFin b)) == 1#1) ((j 0).castLE hk)).val := by
  have hs : ∀ a : Fin 1, ((Shape.Idx.ofFin ((j 0).castLE hk) : (⟨1, ![n]⟩ : Shape).Idx) a).val = 0 + (j (a.cast h.1.symm)).val := by
    intro a
    match a with
    | ⟨0, _⟩ => simp [Shape.Idx.ofFin]; rfl
  unfold Host.topK
  dsimp only
  rw [extractStridedSlice_apply _ _ h j _ hs, extractStridedSlice_apply _ _ h j _ hs]
  unfold Host.sort2
  simp [ValueIdx.iotaInDim_apply]

/-- The negated distance, from arrays, at an index. -/
theorem negDist_apply {s : Shape} (one num a b fl : FVec Ideal s .f32) (i : s.Idx) :
    Host.negf (subf one (Host.divf num (maximumf (mulf a (Host.sqrt b)) fl))) i
      = (-(one i - Ideal.div (num i) (max (a i * Ideal.sqrt (b i)) (fl i))) : EReal) := rfl

variable (q : FVec Ideal S1x64 .f32) (x : FVec Ideal S1000000x64 .f32)

/-- The array the reference takes the greatest sixteen of. -/
def scores : FVec Ideal S1000000 .f32 :=
  Host.negf (subf (broadcastInDim S1000000 ![] bcast_S_S1000000 (constant S_ .f32 0x3F800000#32))
    (Host.divf (Host.reduceAdd (mulf (broadcastInDim S1000000x64 ![0, 1] bcast_S1x64_S1000000x64_0_1 q) x)
        (constant S_ .f32 0x00000000#32) reducesTo_S1000000x64_S1000000_d1 h_S_)
      (maximumf (mulf (broadcastInDim S1000000 ![0] bcast_S1_S1000000_0
            (Host.sqrt (Host.reduceAdd (mulf q q) (constant S_ .f32 0x00000000#32) reducesTo_S1x64_S1_d1 h_S_)))
          (Host.sqrt (Host.reduceAdd (mulf x x) (constant S_ .f32 0x00000000#32) reducesTo_S1000000x64_S1000000_d1 h_S_)))
        (broadcastInDim S1000000 ![] bcast_S_S1000000 (constant S_ .f32 0x322BCC77#32)))))

/-- The distance from the query to each row, by position. -/
def distAt : ℕ → EReal := dist (fun k => q (ValueIdx.ix2 0 k)) (fun i k => x (ValueIdx.ix2 i k))

/-- A score is the negated distance. -/
theorem scores_apply (i : S1000000.Idx) : scores q x i = -distAt q x (i 0).val := by
  have hi : (i 0).val < 1000000 := (i 0).isLt
  rw [distAt, dist_of_lt _ _ hi]
  have hcoord : ∀ d : Fin S1000000.rank, (i d).val = (⟨(i 0).val, hi⟩ : Fin 1000000).val := fun d => by
    rw [show d = 0 from Subsingleton.elim (α := Fin 1) _ _]
  have e1 : broadcastInDim S1000000 ![] bcast_S_S1000000 (constant (F := Ideal) S_ .f32 0x3F800000#32) i = (1 : EReal) :=
    (ValueIdx.broadcastInDim_scalar_apply _ _ _).trans Ideal.ofBits_one_f32
  have e2 : broadcastInDim S1000000 ![] bcast_S_S1000000 (constant (F := Ideal) S_ .f32 0x322BCC77#32) i = floor :=
    ValueIdx.broadcastInDim_scalar_apply _ _ _
  have e3 : Host.reduceAdd (mulf x x) (constant S_ .f32 0x00000000#32) reducesTo_S1000000x64_S1000000_d1 h_S_ i
      = ∑ k : Fin 64, x (ValueIdx.ix2 ⟨(i 0).val, hi⟩ k) * x (ValueIdx.ix2 ⟨(i 0).val, hi⟩ k) :=
    rowSum_apply (n := 1000000) (mulf x x) _ _ i ⟨(i 0).val, hi⟩ hcoord
  have e4 : Host.reduceAdd (mulf (broadcastInDim S1000000x64 ![0, 1] bcast_S1x64_S1000000x64_0_1 q) x)
      (constant S_ .f32 0x00000000#32) reducesTo_S1000000x64_S1000000_d1 h_S_ i
      = ∑ k : Fin 64, q (ValueIdx.ix2 0 k) * x (ValueIdx.ix2 ⟨(i 0).val, hi⟩ k) := by
    refine (rowSum_apply (n := 1000000) _ _ _ i ⟨(i 0).val, hi⟩ hcoord).trans (Finset.sum_congr rfl fun k _ => ?_)
    refine congrArg (fun z : EReal => z * x (ValueIdx.ix2 ⟨(i 0).val, hi⟩ k)) ?_
    refine broadcastInDim_apply _ _ q _ (ValueIdx.ix2 (0 : Fin 1) k) ?_
    intro d
    match d with
    | ⟨0, _⟩ => rfl
    | ⟨1, _⟩ => rfl
  have e5 : broadcastInDim S1000000 ![0] bcast_S1_S1000000_0
      (Host.sqrt (Host.reduceAdd (mulf q q) (constant S_ .f32 0x00000000#32) reducesTo_S1x64_S1_d1 h_S_)) i
      = Ideal.sqrt (∑ k : Fin 64, q (ValueIdx.ix2 0 k) * q (ValueIdx.ix2 0 k)) := by
    refine (broadcastInDim_apply _ _ _ i (ValueIdx.ix1 (0 : Fin 1)) fun d => by match d with | ⟨0, _⟩ => rfl).trans ?_
    exact congrArg Ideal.sqrt (rowSum_apply (n := 1) (mulf q q) reducesTo_S1x64_S1_d1 h_S_ _ (0 : Fin 1) fun d => by
      match d with
      | ⟨0, _⟩ => rfl)
  rw [scores, negDist_apply, e1, e2, e3, e4, e5]
  rfl

/-- Where the `j`-th greatest score stands. -/
def place (j : S16.Idx) : Fin 1000000 :=
  sortedFrom (fun k k' : Fin 1000000 => FloatOps.cmpfTotal (F := Ideal) (φ := .f32) .gt (scores q x (Shape.Idx.ofFin k)) (scores q x (Shape.Idx.ofFin k')) == 1#1)
    ((j 0).castLE (by norm_num))

theorem place_eq {σ : Fin 16 → ℕ} (hσ : Best (distAt q x) 1000000 σ) (j : S16.Idx) : place q x j = ⟨σ (j 0), hσ.below (j 0)⟩ := by
  have e : (fun k : Fin 1000000 => scores q x (Shape.Idx.ofFin k)) = fun k => -distAt q x k.val := by
    funext k
    rw [scores_apply, Shape.Idx.ofFin_zero]
  refine Eq.trans ?_ (Cert.Top.sortedFrom_best (distAt q x) σ hσ (by norm_num) (j 0))
  exact congrArg (fun f : Fin 1000000 → EReal => sortedFrom (fun k k' : Fin 1000000 =>
    FloatOps.cmpfTotal (F := Ideal) (φ := .f32) .gt (f k) (f k') == 1#1) ((j 0).castLE (by norm_num))) e

/-- The greatest sixteen scores and their positions, read off `place`. -/
theorem topK_apply (j : S16.Idx) :
    (Host.topK S16 0 (FloatOps.cmpfTotal .gt) (scores q x) sliceFits_S1000000_S16).1 j = scores q x (Shape.Idx.ofFin (place q x j))
    ∧ (Host.topK S16 0 (FloatOps.cmpfTotal .gt) (scores q x) sliceFits_S1000000_S16).2 j = BitVec.ofNat 32 (place q x j).val :=
  topK_rank1 (n := 1000000) (k := 16) _ (scores q x) _ (by norm_num) j

/-- Both results, when the first sixteen positions by distance are `σ`. -/
theorem results_apply {σ : Fin 16 → ℕ} (hσ : Best (distAt q x) 1000000 σ) (j : S1x16.Idx) :
    broadcastInDim S1x16 ![1] bcast_S16_S1x16_1
        (Host.negf (Host.topK S16 0 (FloatOps.cmpfTotal .gt) (scores q x) sliceFits_S1000000_S16).1) j = distAt q x (σ (j 1))
    ∧ broadcastInDim S1x16 ![1] bcast_S16_S1x16_1 (Host.topK S16 0 (FloatOps.cmpfTotal .gt) (scores q x) sliceFits_S1000000_S16).2 j
      = BitVec.ofNat 32 (σ (j 1)) := by
  have hk : ∀ a : Fin 1, ((ValueIdx.ix1 (j 1) : S16.Idx) a).val = if S16.size a = 1 then 0 else (j ((![1] : Fin 1 → Fin 2) a)).val := by
    intro a
    match a with
    | ⟨0, _⟩ => rfl
  obtain ⟨t1, t2⟩ := topK_apply q x (ValueIdx.ix1 (j 1))
  rw [place_eq q x hσ] at t1 t2
  rw [scores_apply, Shape.Idx.ofFin_zero] at t1
  constructor
  · refine (broadcastInDim_apply _ _ _ j (ValueIdx.ix1 (j 1)) hk).trans ((congrArg (fun z : EReal => -z) t1).trans ?_)
    exact neg_neg _
  · exact (broadcastInDim_apply _ _ _ j (ValueIdx.ix1 (j 1)) hk).trans t2

end Cert.ReferenceIdeal.Value
-- ==== Proof.Value.lean ====
/- The value claim: over a finite database the kernel's two results are the reference's. -/
module

public import proofs.«01_k».proof.Proof.Agree
public import proofs.«01_k».proof.Proof.Reference

@[expose] public section

set_option maxRecDepth 65536

noncomputable section

namespace Cert.Value

open Idealize.ShloMosaic Idealize.ShloMosaic.TcCoe Idealize.SL.Sem Cert.KernelIdeal.Steps Cert.ReferenceIdeal.Value
open Cert.ReferenceIdeal.Gen

/-- The reference's distances and positions, from the kernel's query and database, are the entries the kernel ends with. -/
theorem results_eq (m : (ℓ : Loc Cert.KernelIdeal.nD Cert.KernelIdeal.τ Cert.KernelIdeal.sig) → Buf (Elt Ideal) ℓ)
    (c : Dev Cert.KernelIdeal.nD) (hX : ∀ i k, ∃ r : ℝ, row m c i k = r)
    (q : FVec Ideal Cert.ReferenceIdeal.S1x64 .f32) (x : FVec Ideal Cert.ReferenceIdeal.S1000000x64 .f32)
    (hq : q = m ((c.tc : Thread Cert.KernelIdeal.nD Cert.KernelIdeal.τ).loc Cert.KernelIdeal.main_arg0))
    (hx : x = m ((c.tc : Thread Cert.KernelIdeal.nD Cert.KernelIdeal.τ).loc Cert.KernelIdeal.main_arg1)) :
    broadcastInDim Cert.ReferenceIdeal.S1x16 ![1] bcast_S16_S1x16_1
        (Host.negf (Host.topK Cert.ReferenceIdeal.S16 0 (FloatOps.cmpfTotal .gt) (scores q x) sliceFits_S1000000_S16).1) = (heldAt m c 40).d
    ∧ broadcastInDim Cert.ReferenceIdeal.S1x16 ![1] bcast_S16_S1x16_1
        (Host.topK Cert.ReferenceIdeal.S16 0 (FloatOps.cmpfTotal .gt) (scores q x) sliceFits_S1000000_S16).2 = (heldAt m c 40).i := by
  obtain ⟨σ, hσ, hv⟩ := held_final m c hX
  have hD : distAt q x = Cert.Similarity.dist (query m c) (row m c) := by rw [hq, hx]; rfl
  rw [← hD] at hσ hv
  exact ⟨funext fun j => (results_apply q x hσ j).1.trans (hv j).1.symm, funext fun j => (results_apply q x hσ j).2.trans (hv j).2.symm⟩

/-- The value claim. -/
theorem value : Cert.algebraic_KernelIdeal_ReferenceIdeal_pre_finite := by
  intro m g m' g' hpre hargs
  refine ⟨fun c => (heldAt m c 40).d, fun c => (heldAt m c 40).i, run_value m g, ?_⟩
  refine (θ_run Cert.ReferenceIdeal.defs _ _).mono (fun r h c => ?_) (Cert.ReferenceIdeal.Value.run m' g')
  obtain ⟨h18, h19, h0, h1⟩ := h c
  have e := results_eq m c (fun i k => real_of_pre _ _ (hpre c) (ValueIdx.ix2 i k)) _ _ (hargs c).1 (hargs c).2
  exact ⟨h18.trans e.1, h19.trans e.2, h0, h1⟩

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Run
public import proofs.«01_k».proof.Proof.Transport
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The frame of the kernel at the extended reals. -/
theorem frame_kernel : Cert.quiescent_KernelIdeal := fun m ρ _ => Cert.KernelIdeal.Steps.frame m ρ

/-- The frame of the reference: no operation writes an argument, and it declares no semaphore. -/
theorem frame_reference : Cert.quiescent_ReferenceIdeal := fun m ρ _ =>
  (θ_run Cert.ReferenceIdeal.defs _ _).mono
    (fun r h => ⟨fun c => ⟨(h c).2.2.1, (h c).2.2.2⟩, sem_eq_zero_of_no_sems (by decide) r.2⟩)
    (Cert.ReferenceIdeal.Value.run m ρ)

theorem claim : Cert.Claim := ⟨Cert.Kernel.Gen.facts, Cert.KernelIdeal.Gen.facts, Cert.ReferenceIdeal.Gen.facts, Cert.Pre_finite.Gen.facts,
  Cert.Transport.frame, frame_kernel, fun m ρ _ => frame_kernel m ρ trivial, frame_reference, fun m ρ _ => frame_reference m ρ trivial,
  trivial, Cert.Value.value⟩

end Cert.Proof

end
